-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![2, 1024, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 128, 512]⟩ ⟨3, ![2, 1024, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x32x64 : Shape := ⟨4, ![2, 128, 32, 64]⟩
abbrev S256x512 : Shape := ⟨2, ![256, 512]⟩
abbrev S8x512x256 : Shape := ⟨3, ![8, 512, 256]⟩
abbrev S8x256x512 : Shape := ⟨3, ![8, 256, 512]⟩
abbrev S7 : Shape := ⟨1, ![7]⟩
abbrev S8 : Shape := ⟨1, ![8]⟩
abbrev S_ : Shape := ⟨0, ![]⟩
abbrev S1x512x256 : Shape := ⟨3, ![1, 512, 256]⟩
abbrev S1x256x512 : Shape := ⟨3, ![1, 256, 512]⟩
abbrev S1 : Shape := ⟨1, ![1]⟩
abbrev S128x128 : Shape := ⟨2, ![128, 128]⟩
abbrev S128 : Shape := ⟨1, ![128]⟩
abbrev S128x1 : Shape := ⟨2, ![128, 1]⟩
abbrev S128x512 : Shape := ⟨2, ![128, 512]⟩
abbrev S1x128x512 : Shape := ⟨3, ![1, 128, 512]⟩
abbrev S128x256 : Shape := ⟨2, ![128, 256]⟩
abbrev S128x64 : Shape := ⟨2, ![128, 64]⟩
abbrev S1x128x1x64 : Shape := ⟨4, ![1, 128, 1, 64]⟩
abbrev S64x128 : Shape := ⟨2, ![64, 128]⟩

abbrev nBuf : Space → Nat
  | .hbm => 6
  | .vmem => 8
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S2x128x32x64, .bf16⟩
  | .hbm, ⟨3, _⟩ => ⟨S2x128x32x64, .bf16⟩
  | .hbm, ⟨4, _⟩ => ⟨S256x512, .bf16⟩
  | .hbm, ⟨5, _⟩ => ⟨S2x128x512, .f32⟩
  | .local _ .vmem, ⟨0, _⟩ => ⟨S2x128x512, .bf16⟩
  | .local _ .vmem, ⟨1, _⟩ => ⟨S512x256, .bf16⟩
  | .local _ .vmem, ⟨2, _⟩ => ⟨S2x128x32x64, .bf16⟩
  | .local _ .vmem, ⟨3, _⟩ => ⟨S2x128x32x64, .bf16⟩
  | .local _ .vmem, ⟨4, _⟩ => ⟨S256x512, .bf16⟩
  | .local _ .vmem, ⟨5, _⟩ => ⟨S2x128x512, .f32⟩
  | .local _ .vmem, ⟨6, _⟩ => ⟨S8x512x256, .bf16⟩
  | .local _ .vmem, ⟨7, _⟩ => ⟨S8x256x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v35 : Index := Scalar.indexCast v2
  let c0_30 : Index := 0#32
  let c0_31 : Index := 0#32
  ![v35.toNat, 0, 0]
def k0_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v42 : Index := Scalar.indexCast v2
  let c0_34 : Index := 0#32
  let c0_35 : Index := 0#32
  ![v42.toNat, 0, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_41 : BitVec 32 := 0#32
  let c0_i32_42 : BitVec 32 := 0#32
  ![v2.toNat, 0, 0]
def k0_dev8 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v46 : BitVec 32 := Scalar.addi v2 c1_i32_36
  let c8_i32_37 : BitVec 32 := 8#32
  let v47 : BitVec 32 := Scalar.remsi v46 c8_i32_37
  let c1_i32_39 : BitVec 32 := 1#32
  let v48 : BitVec 32 := Scalar.muli v47 c1_i32_39
  let v49 : BitVec 32 := Scalar.addi c0_i32_40 v48
  v49.toNat
def k0_off5 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_48 : BitVec 32 := 0#32
  let c0_i32_49 : BitVec 32 := 0#32
  ![v2.toNat, 0, 0]
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_36 : BitVec 32 := 1#32
  let v46 : BitVec 32 := Scalar.addi v2 c1_i32_36
  let c8_i32_37 : BitVec 32 := 8#32
  let v47 : BitVec 32 := Scalar.remsi v46 c8_i32_37
  let c1_i32_46 : BitVec 32 := 1#32
  let v58 : BitVec 32 := Scalar.muli v47 c1_i32_46
  let v59 : BitVec 32 := Scalar.addi c0_i32_47 v58
  v59.toNat
def k0_dev10 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_52 : BitVec 32 := 2#32
  let v68 : BitVec 32 := Scalar.addi v2 c2_i32_52
  let c8_i32_53 : BitVec 32 := 8#32
  let v69 : BitVec 32 := Scalar.remsi v68 c8_i32_53
  let c1_i32_55 : BitVec 32 := 1#32
  let v70 : BitVec 32 := Scalar.muli v69 c1_i32_55
  let v71 : BitVec 32 := Scalar.addi c0_i32_56 v70
  v71.toNat
def k0_dev11 (d0 : Dev nD) : Nat :=
  let c0_i32_63 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_52 : BitVec 32 := 2#32
  let v68 : BitVec 32 := Scalar.addi v2 c2_i32_52
  let c8_i32_53 : BitVec 32 := 8#32
  let v69 : BitVec 32 := Scalar.remsi v68 c8_i32_53
  let c1_i32_62 : BitVec 32 := 1#32
  let v80 : BitVec 32 := Scalar.muli v69 c1_i32_62
  let v81 : BitVec 32 := Scalar.addi c0_i32_63 v80
  v81.toNat
def k0_dev12 (d0 : Dev nD) : Nat :=
  let c0_i32_72 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_68 : BitVec 32 := 3#32
  let v90 : BitVec 32 := Scalar.addi v2 c3_i32_68
  let c8_i32_69 : BitVec 32 := 8#32
  let v91 : BitVec 32 := Scalar.remsi v90 c8_i32_69
  let c1_i32_71 : BitVec 32 := 1#32
  let v92 : BitVec 32 := Scalar.muli v91 c1_i32_71
  let v93 : BitVec 32 := Scalar.addi c0_i32_72 v92
  v93.toNat
def k0_dev13 (d0 : Dev nD) : Nat :=
  let c0_i32_79 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_68 : BitVec 32 := 3#32
  let v90 : BitVec 32 := Scalar.addi v2 c3_i32_68
  let c8_i32_69 : BitVec 32 := 8#32
  let v91 : BitVec 32 := Scalar.remsi v90 c8_i32_69
  let c1_i32_78 : BitVec 32 := 1#32
  let v102 : BitVec 32 := Scalar.muli v91 c1_i32_78
  let v103 : BitVec 32 := Scalar.addi c0_i32_79 v102
  v103.toNat
def k0_dev14 (d0 : Dev nD) : Nat :=
  let c0_i32_88 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_84 : BitVec 32 := 4#32
  let v112 : BitVec 32 := Scalar.addi v2 c4_i32_84
  let c8_i32_85 : BitVec 32 := 8#32
  let v113 : BitVec 32 := Scalar.remsi v112 c8_i32_85
  let c1_i32_87 : BitVec 32 := 1#32
  let v114 : BitVec 32 := Scalar.muli v113 c1_i32_87
  let v115 : BitVec 32 := Scalar.addi c0_i32_88 v114
  v115.toNat
def k0_dev15 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_84 : BitVec 32 := 4#32
  let v112 : BitVec 32 := Scalar.addi v2 c4_i32_84
  let c8_i32_85 : BitVec 32 := 8#32
  let v113 : BitVec 32 := Scalar.remsi v112 c8_i32_85
  let c1_i32_94 : BitVec 32 := 1#32
  let v124 : BitVec 32 := Scalar.muli v113 c1_i32_94
  let v125 : BitVec 32 := Scalar.addi c0_i32_95 v124
  v125.toNat
def k0_dev16 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_100 : BitVec 32 := 5#32
  let v134 : BitVec 32 := Scalar.addi v2 c5_i32_100
  let c8_i32_101 : BitVec 32 := 8#32
  let v135 : BitVec 32 := Scalar.remsi v134 c8_i32_101
  let c1_i32_103 : BitVec 32 := 1#32
  let v136 : BitVec 32 := Scalar.muli v135 c1_i32_103
  let v137 : BitVec 32 := Scalar.addi c0_i32_104 v136
  v137.toNat
def k0_dev17 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_100 : BitVec 32 := 5#32
  let v134 : BitVec 32 := Scalar.addi v2 c5_i32_100
  let c8_i32_101 : BitVec 32 := 8#32
  let v135 : BitVec 32 := Scalar.remsi v134 c8_i32_101
  let c1_i32_110 : BitVec 32 := 1#32
  let v146 : BitVec 32 := Scalar.muli v135 c1_i32_110
  let v147 : BitVec 32 := Scalar.addi c0_i32_111 v146
  v147.toNat
def k0_dev18 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_116 : BitVec 32 := 6#32
  let v156 : BitVec 32 := Scalar.addi v2 c6_i32_116
  let c8_i32_117 : BitVec 32 := 8#32
  let v157 : BitVec 32 := Scalar.remsi v156 c8_i32_117
  let c1_i32_119 : BitVec 32 := 1#32
  let v158 : BitVec 32 := Scalar.muli v157 c1_i32_119
  let v159 : BitVec 32 := Scalar.addi c0_i32_120 v158
  v159.toNat
def k0_dev19 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_116 : BitVec 32 := 6#32
  let v156 : BitVec 32 := Scalar.addi v2 c6_i32_116
  let c8_i32_117 : BitVec 32 := 8#32
  let v157 : BitVec 32 := Scalar.remsi v156 c8_i32_117
  let c1_i32_126 : BitVec 32 := 1#32
  let v168 : BitVec 32 := Scalar.muli v157 c1_i32_126
  let v169 : BitVec 32 := Scalar.addi c0_i32_127 v168
  v169.toNat
def k0_dev20 (d0 : Dev nD) : Nat :=
  let c0_i32_136 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_132 : BitVec 32 := 7#32
  let v178 : BitVec 32 := Scalar.addi v2 c7_i32_132
  let c8_i32_133 : BitVec 32 := 8#32
  let v179 : BitVec 32 := Scalar.remsi v178 c8_i32_133
  let c1_i32_135 : BitVec 32 := 1#32
  let v180 : BitVec 32 := Scalar.muli v179 c1_i32_135
  let v181 : BitVec 32 := Scalar.addi c0_i32_136 v180
  v181.toNat
def k0_dev21 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_132 : BitVec 32 := 7#32
  let v178 : BitVec 32 := Scalar.addi v2 c7_i32_132
  let c8_i32_133 : BitVec 32 := 8#32
  let v179 : BitVec 32 := Scalar.remsi v178 c8_i32_133
  let c1_i32_142 : BitVec 32 := 1#32
  let v190 : BitVec 32 := Scalar.muli v179 c1_i32_142
  let v191 : BitVec 32 := Scalar.addi c0_i32_143 v190
  v191.toNat
abbrev stage0_0 : Fin 1 → Memref sig .tc .vmem S2x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x1024x512 : Shape := ⟨3, ![2, 1024, 512]⟩
abbrev S512x2048 : Shape := ⟨2, ![512, 2048]⟩
abbrev S2x128x32x64 : Shape := ⟨4, ![2, 128, 32, 64]⟩
abbrev S2048x512 : Shape := ⟨2, ![2048, 512]⟩
abbrev S2x1024x2048 : Shape := ⟨3, ![2, 1024, 2048]⟩
abbrev S2x1024x32x64 : Shape := ⟨4, ![2, 1024, 32, 64]⟩
abbrev S1024 : Shape := ⟨1, ![1024]⟩
abbrev S_ : Shape := ⟨0, ![]⟩
abbrev S1024x1 : Shape := ⟨2, ![1024, 1]⟩
abbrev S128 : Shape := ⟨1, ![128]⟩
abbrev S1x128 : Shape := ⟨2, ![1, 128]⟩
abbrev S1024x128 : Shape := ⟨2, ![1024, 128]⟩
abbrev S2x32x1024x128 : Shape := ⟨4, ![2, 32, 1024, 128]⟩
abbrev S1x1x1024x128 : Shape := ⟨4, ![1, 1, 1024, 128]⟩
abbrev S2x32x1024 : Shape := ⟨3, ![2, 32, 1024]⟩
abbrev S2x32x1024x1 : Shape := ⟨4, ![2, 32, 1024, 1]⟩
abbrev S1x1x1024x1 : Shape := ⟨4, ![1, 1, 1024, 1]⟩
abbrev S2x32x64x1024 : Shape := ⟨4, ![2, 32, 64, 1024]⟩

abbrev nBuf : Space → Nat
  | .hbm => 142
  | .vmem => 0
  | .smem => 0
  | _ => 0

abbrev hbmTy0_0 (i : Nat) : BufTy := match i % 128 with
  | 0 => ⟨S2x1024x512, .bf16⟩
  | 1 => ⟨S512x2048, .bf16⟩
  | 2 => ⟨S2x128x32x64, .bf16⟩
  | 3 => ⟨S2x128x32x64, .bf16⟩
  | 4 => ⟨S2048x512, .bf16⟩
  | 5 => ⟨S2x1024x2048, .f32⟩
  | 6 => ⟨S2x1024x2048, .bf16⟩
  | 7 => ⟨S2x1024x32x64, .bf16⟩
  | 8 => ⟨S1024, .i32⟩
  | 9 => ⟨S_, .i32⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S1024, .i32⟩
  | 18 => ⟨S1024, .i32⟩
  | 19 => ⟨S_, .i32⟩
  | 20 => ⟨S1024, .i32⟩
  | 21 => ⟨S1024, .i1⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S128, .i32⟩
  | 29 => ⟨S_, .i32⟩
  | 30 => ⟨S_, .i32⟩
  | 31 => ⟨S128, .i32⟩
  | 32 => ⟨S128, .i32⟩
  | 33 => ⟨S128, .i32⟩
  | 34 => ⟨S_, .i32⟩
  | 35 => ⟨S128, .i32⟩
  | 36 => ⟨S128, .i1⟩
  | 37 => ⟨S128, .i32⟩
  | 38 => ⟨S128, .i32⟩
  | 39 => ⟨S_, .i32⟩
  | 40 => ⟨S128, .i32⟩
  | 41 => ⟨S128, .i1⟩
  | 42 => ⟨S128, .i1⟩
  | 43 => ⟨S_, .i32⟩
  | 44 => ⟨S128, .i32⟩
  | 45 => ⟨S128, .i32⟩
  | 46 => ⟨S128, .i32⟩
  | 47 => ⟨S1x128, .i32⟩
  | 48 => ⟨S1024x128, .i32⟩
  | 49 => ⟨S1024x128, .i32⟩
  | 50 => ⟨S1024x128, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x128, .i32⟩
  | 58 => ⟨S1x128, .i32⟩
  | 59 => ⟨S_, .i32⟩
  | 60 => ⟨S1x128, .i32⟩
  | 61 => ⟨S1x128, .i1⟩
  | 62 => ⟨S_, .i32⟩
  | 63 => ⟨S1x128, .i32⟩
  | 64 => ⟨S1x128, .i1⟩
  | 65 => ⟨S_, .i32⟩
  | 66 => ⟨S_, .i1⟩
  | 67 => ⟨S1x128, .i1⟩
  | 68 => ⟨S1x128, .i1⟩
  | 69 => ⟨S1x128, .i1⟩
  | 70 => ⟨S1x128, .i32⟩
  | 71 => ⟨S1x128, .i32⟩
  | 72 => ⟨S1x128, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1024x1, .i32⟩
  | 80 => ⟨S1024x1, .i32⟩
  | 81 => ⟨S_, .i32⟩
  | 82 => ⟨S1024x1, .i32⟩
  | 83 => ⟨S1024x1, .i1⟩
  | 84 => ⟨S_, .i32⟩
  | 85 => ⟨S1024x1, .i32⟩
  | 86 => ⟨S1024x1, .i1⟩
  | 87 => ⟨S_, .i32⟩
  | 88 => ⟨S_, .i1⟩
  | 89 => ⟨S1024x1, .i1⟩
  | 90 => ⟨S1024x1, .i1⟩
  | 91 => ⟨S1024x1, .i1⟩
  | 92 => ⟨S1024x1, .i32⟩
  | 93 => ⟨S1024x1, .i32⟩
  | 94 => ⟨S1024x1, .i32⟩
  | 95 => ⟨S1024x128, .i32⟩
  | 96 => ⟨S1024x128, .i32⟩
  | 97 => ⟨S1024x128, .i1⟩
  | 98 => ⟨S1024x128, .i1⟩
  | 99 => ⟨S2x32x1024x128, .f32⟩
  | 100 => ⟨S2x32x1024x128, .bf16⟩
  | 101 => ⟨S2x32x1024x128, .f32⟩
  | 102 => ⟨S_, .f32⟩
  | 103 => ⟨S2x32x1024x128, .f32⟩
  | 104 => ⟨S2x32x1024x128, .f32⟩
  | 105 => ⟨S1x1x1024x128, .i1⟩
  | 106 => ⟨S_, .f32⟩
  | 107 => ⟨S_, .f32⟩
  | 108 => ⟨S2x32x1024x128, .i1⟩
  | 109 => ⟨S2x32x1024x128, .f32⟩
  | 110 => ⟨S2x32x1024x128, .f32⟩
  | 111 => ⟨S_, .f32⟩
  | 112 => ⟨S2x32x1024, .f32⟩
  | 113 => ⟨S2x32x1024x1, .f32⟩
  | 114 => ⟨S2x32x1024x128, .f32⟩
  | 115 => ⟨S2x32x1024x128, .f32⟩
  | 116 => ⟨S2x32x1024x128, .f32⟩
  | 117 => ⟨S_, .i1⟩
  | 118 => ⟨S1024, .i1⟩
  | 119 => ⟨S1x1x1024x1, .i1⟩
  | 120 => ⟨S_, .f32⟩
  | 121 => ⟨S2x32x1024, .f32⟩
  | 122 => ⟨S2x32x1024x1, .f32⟩
  | 123 => ⟨S_, .f32⟩
  | 124 => ⟨S_, .f32⟩
  | 125 => ⟨S2x32x1024x1, .i1⟩
  | 126 => ⟨S2x32x1024x1, .f32⟩
  | 127 => ⟨S2x32x1024x1, .f32⟩
  | _ => ⟨S2x1024x512, .bf16⟩

abbrev hbmTy0_1 (i : Nat) : BufTy := match i % 128 with
  | 0 => ⟨S2x32x1024x128, .f32⟩
  | 1 => ⟨S2x32x1024x128, .f32⟩
  | 2 => ⟨S1x1x1024x1, .i1⟩
  | 3 => ⟨S_, .f32⟩
  | 4 => ⟨S_, .f32⟩
  | 5 => ⟨S2x32x1024x128, .i1⟩
  | 6 => ⟨S2x32x1024x128, .f32⟩
  | 7 => ⟨S2x32x1024x128, .f32⟩
  | 8 => ⟨S2x128x32x64, .f32⟩
  | 9 => ⟨S2x32x64x1024, .f32⟩
  | 10 => ⟨S2x1024x32x64, .f32⟩
  | 11 => ⟨S2x1024x2048, .f32⟩
  | 12 => ⟨S2048x512, .f32⟩
  | 13 => ⟨S2x1024x512, .f32⟩
  | _ => ⟨S2x1024x512, .bf16⟩

abbrev hbmTy (i : Nat) : BufTy := match i / 128 with
  | 0 => hbmTy0_0 i
  | 1 => hbmTy0_1 i
  | _ => ⟨S2x1024x512, .bf16⟩

abbrev bufTy : (tb : Table) → Fin (tcTables nBuf tb) → BufTy
  | .hbm, ⟨i, _⟩ => hbmTy i
  | _, _ => ⟨S2x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Protocol.lean ====
/-
The exchange of the kernel on the eight devices, stated for the rounds library.

Every device starts by signalling the barrier cell of each other device, handing over its two slots that the
signalled device will write. It waits for the seven signals of the others, copies its own blocks of `wq` and
`wo` into its slots on every other device, and waits for each block it needs before reading it.

* a barrier cell has seven duties, one for each other device;
* a receive cell (one for every slot but the device's own, for each of the two buffers) has one duty, paid by
  the device whose block the slot takes;
* a send cell (one for each copy) has one duty, which gives the share of the source back.

The two gathered buffers hold the same contents on every device, so a slot is stated at these contents.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.ShareLeaves
public import Idealize.ShloMosaic.Lib.Tactic

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The rounds library's algebra for the exchange, a duty named by a device. -/
abbrev UB : Type := URounds (GSem nD τ sig) (Dev nD)
/-- The pipeline library's copy and the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, all counters zero, any generator registers. -/
def s₀ : MemSt nD τ sig (Elt F) := ⟨m, fun _ => 0, ρ⟩

/-! ## The other devices -/

set_option backward.proofsInPublic true in
/-- The device `s + 1` places after `c`. -/
def peer (s : Fin 7) (c : Dev nD) : Dev nD := ⟨(c.val + s.val + 1) % 8, Nat.mod_lt _ (by decide)⟩

theorem peer_ne (s : Fin 7) (c : Dev nD) : peer s c ≠ c := by revert s c; decide
theorem peer_inj (c : Dev nD) : Function.Injective (fun s => peer s c) := by revert c; decide
theorem erase_eq (c : Dev nD) : (Finset.univ : Finset (Dev nD)).erase c = Finset.univ.map ⟨fun s => peer s c, peer_inj c⟩ := by
  revert c; decide
/-- For a fixed shift the other device's name is a permutation of the devices. -/
theorem peer_bij (s : Fin 7) : Function.Bijective (peer s) := by
  refine Finite.injective_iff_bijective.mp ?_
  revert s; decide

/-! ## Semaphores -/

/-- What a semaphore of the exchange is for: the barrier, or, for one of the two buffers (`false`: the gathered
    `wq`, `true`: the gathered `wo`), the send of one shift or the receipt of one slot. -/
abbrev Role : Type := Option (Bool × (Fin 7 ⊕ Fin 8))

/-- The runtime's barrier semaphore. -/
abbrev barS : Sem sig := (SemArray.scalar (sig.barrier 0 rfl) : Sems sig S_).sem

set_option backward.proofsInPublic true in
/-- The semaphore of a role of the kernel's own. -/
def osem : Bool × (Fin 7 ⊕ Fin 8) → SemLoc sig
  | (false, .inl s) => .dma (⟨6 + s.val, by have := s.isLt; show _ < 36; omega⟩ : Fin 36)
  | (false, .inr j) => .dma (⟨13 + j.val, by have := j.isLt; show _ < 36; omega⟩ : Fin 36)
  | (true, .inl s) => .dma (⟨21 + s.val, by have := s.isLt; show _ < 36; omega⟩ : Fin 36)
  | (true, .inr j) => .dma (⟨28 + j.val, by have := j.isLt; show _ < 36; omega⟩ : Fin 36)

/-- The semaphore of a role. -/
def csem : Role → SemLoc sig
  | none => .reg barS
  | some k => osem k

/-- The role of a semaphore, if it has one. -/
def role : SemLoc sig → Option Role
  | .reg _ => some none
  | .dma q =>
    if q.val < 6 then none
    else if h : q.val - 6 < 7 then some (some (false, .inl ⟨q.val - 6, h⟩))
    else if h : q.val - 13 < 8 then some (some (false, .inr ⟨q.val - 13, h⟩))
    else if h : q.val - 21 < 7 then some (some (true, .inl ⟨q.val - 21, h⟩))
    else if h : q.val - 28 < 8 then some (some (true, .inr ⟨q.val - 28, h⟩))
    else none

theorem role_csem (k : Role) : role (csem k) = some k := by revert k; decide
theorem csem_injective : Function.Injective csem := fun a b h => by
  have := congrArg role h; rw [role_csem, role_csem] at this; exact Option.some.inj this

/-- The cell of a role on a device. -/
abbrev kcell (ck : Dev nD × Role) : GSem nD τ sig := ((ck.1 : Thread nD τ), csem ck.2)
abbrev barCell (c : Dev nD) : GSem nD τ sig := kcell (c, none)
abbrev sendCell (b : Bool) (c : Dev nD) (s : Fin 7) : GSem nD τ sig := kcell (c, some (b, .inl s))
abbrev recvCell (b : Bool) (c : Dev nD) (j : Dev nD) : GSem nD τ sig := kcell (c, some (b, .inr j))

theorem kcell_injective : Function.Injective (kcell : Dev nD × Role → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The gathered buffers and their slots -/

abbrev qM : Memref sig .tc .vmem S8x512x256 .bf16 := Memref.whole cc0_scratch0
abbrev oM : Memref sig .tc .vmem S8x256x512 .bf16 := Memref.whole cc0_scratch1

theorem q_inb (j : Dev nD) : ∀ a, (![j.val, 0, 0] : Fin 3 → ℕ) a + S1x512x256.size a ≤ S8x512x256.size a := by revert j; decide
theorem o_inb (j : Dev nD) : ∀ a, (![j.val, 0, 0] : Fin 3 → ℕ) a + S1x256x512.size a ≤ S8x256x512.size a := by revert j; decide

/-- Slot `j` of the gathered `wq`. -/
def qSl (j : Dev nD) : Memref sig .tc .vmem S512x256 .bf16 :=
  (qM.slice (Rect.unit (s := S8x512x256) ![j.val, 0, 0] S1x512x256.size (q_inb j)) (fun _ => rfl)).squeeze S512x256 squeezes_S1x512x256_S512x256
/-- Slot `j` of the gathered `wo`. -/
def oSl (j : Dev nD) : Memref sig .tc .vmem S256x512 .bf16 :=
  (oM.slice (Rect.unit (s := S8x256x512) ![j.val, 0, 0] S1x256x512.size (o_inb j)) (fun _ => rfl)).squeeze S256x512 squeezes_S1x256x512_S256x512

theorem qSl_eq (j : Dev nD) {off : Fin 3 → ℕ} (h : off = ![j.val, 0, 0]) (hi : ∀ a, off a + S1x512x256.size a ≤ S8x512x256.size a) :
    (qM.slice (Rect.unit (s := S8x512x256) off S1x512x256.size hi) (fun _ => rfl)).squeeze S512x256 squeezes_S1x512x256_S512x256 = qSl j := by
  subst h; rfl
theorem oSl_eq (j : Dev nD) {off : Fin 3 → ℕ} (h : off = ![j.val, 0, 0]) (hi : ∀ a, off a + S1x256x512.size a ≤ S8x256x512.size a) :
    (oM.slice (Rect.unit (s := S8x256x512) off S1x256x512.size hi) (fun _ => rfl)).squeeze S256x512 squeezes_S1x256x512_S256x512 = oSl j := by
  subst h; rfl

/-- The elements of slot `j` of the gathered `wq`, resp. `wo`. -/
def qSet (j : Dev nD) : Finset S8x512x256.Idx := (Rect.unit (s := S8x512x256) ![j.val, 0, 0] S1x512x256.size (q_inb j)).set
def oSet (j : Dev nD) : Finset S8x256x512.Idx := (Rect.unit (s := S8x256x512) ![j.val, 0, 0] S1x256x512.size (o_inb j)).set

theorem qSl_set (j : Dev nD) : (qSl j).view.set = qSet j := (View.set_reshape _ _).trans (View.set_slice_whole _ _)
theorem oSl_set (j : Dev nD) : (oSl j).view.set = oSet j := (View.set_reshape _ _).trans (View.set_slice_whole _ _)

theorem mem_qSet {j : Dev nD} {i : S8x512x256.Idx} : i ∈ qSet j ↔ (i 0).val = j.val := by
  unfold qSet
  rw [Rect.mem_set_unit, Fin.forall_fin_succ, Fin.forall_fin_succ, Fin.forall_fin_one]
  have h1 : (i 1).val < 512 := (i 1).isLt
  have h2 : (i 2).val < 256 := (i 2).isLt
  show (j.val ≤ (i 0).val ∧ (i 0).val < j.val + 1) ∧ (0 ≤ (i 1).val ∧ (i 1).val < 0 + 512) ∧ (0 ≤ (i 2).val ∧ (i 2).val < 0 + 256) ↔ _
  omega
theorem mem_oSet {j : Dev nD} {i : S8x256x512.Idx} : i ∈ oSet j ↔ (i 0).val = j.val := by
  unfold oSet
  rw [Rect.mem_set_unit, Fin.forall_fin_succ, Fin.forall_fin_succ, Fin.forall_fin_one]
  have h1 : (i 1).val < 256 := (i 1).isLt
  have h2 : (i 2).val < 512 := (i 2).isLt
  show (j.val ≤ (i 0).val ∧ (i 0).val < j.val + 1) ∧ (0 ≤ (i 1).val ∧ (i 1).val < 0 + 256) ∧ (0 ≤ (i 2).val ∧ (i 2).val < 0 + 512) ↔ _
  omega

theorem qSet_disj (b b' : Dev nD) (h : b ≠ b') : Disjoint (qSet b) (qSet b') :=
  Finset.disjoint_left.mpr fun i hi hi' => h (Fin.ext ((mem_qSet.mp hi).symm.trans (mem_qSet.mp hi')))
theorem oSet_disj (b b' : Dev nD) (h : b ≠ b') : Disjoint (oSet b) (oSet b') :=
  Finset.disjoint_left.mpr fun i hi hi' => h (Fin.ext ((mem_oSet.mp hi).symm.trans (mem_oSet.mp hi')))
theorem qSet_cover : Finset.univ.biUnion qSet = Finset.univ :=
  Finset.eq_univ_iff_forall.mpr fun i => Finset.mem_biUnion.mpr ⟨(i 0 : Fin 8), Finset.mem_univ _, mem_qSet.mpr rfl⟩
theorem oSet_cover : Finset.univ.biUnion oSet = Finset.univ :=
  Finset.eq_univ_iff_forall.mpr fun i => Finset.mem_biUnion.mpr ⟨(i 0 : Fin 8), Finset.mem_univ _, mem_oSet.mpr rfl⟩

/-! ## Contents -/

/-- Device `d`'s blocks of the inputs, as its copies of the windows hold them. -/
def xB (d : Dev nD) : (cc0_stg0_0 : Ref sig .tc).ty.Contents (Elt F) :=
  (win0_0.blk (0 : Fin 1)).view.read (Elt F) ((s₀ m ρ).mem ((d : Thread nD τ).loc main_arg0))
def qB (d : Dev nD) : (cc0_stg1_0 : Ref sig .tc).ty.Contents (Elt F) :=
  (win0_1.blk (0 : Fin 1)).view.read (Elt F) ((s₀ m ρ).mem ((d : Thread nD τ).loc main_arg1))
def kB (d : Dev nD) : (cc0_stg2_0 : Ref sig .tc).ty.Contents (Elt F) :=
  (win0_2.blk (0 : Fin 1)).view.read (Elt F) ((s₀ m ρ).mem ((d : Thread nD τ).loc main_arg2))
def vB (d : Dev nD) : (cc0_stg3_0 : Ref sig .tc).ty.Contents (Elt F) :=
  (win0_3.blk (0 : Fin 1)).view.read (Elt F) ((s₀ m ρ).mem ((d : Thread nD τ).loc main_arg3))
def oB (d : Dev nD) : (cc0_stg4_0 : Ref sig .tc).ty.Contents (Elt F) :=
  (win0_4.blk (0 : Fin 1)).view.read (Elt F) ((s₀ m ρ).mem ((d : Thread nD τ).loc main_arg4))

/-- The gathered `wq`: slot `j` holds device `j`'s block. -/
def WQ : S8x512x256.Idx → Elt F .bf16 := fun i => k0_pay1 (qB m ρ (i 0 : Fin 8)) (fun | 0 => (0 : Fin 1) | 1 => i 1 | 2 => i 2)
/-- The gathered `wo`: slot `j` holds device `j`'s block. -/
def WO : S8x256x512.Idx → Elt F .bf16 := fun i => k0_pay2 (oB m ρ (i 0 : Fin 8)) (fun | 0 => (0 : Fin 1) | 1 => i 1 | 2 => i 2)

/-- The share of the own slot's elements lent to the copy of one shift, and the share kept. -/
def lent (s : Fin 7) : PosShare TreeShare := ShareLeaves.leaf 3 fullShare (⟨s.val, by have := s.isLt; omega⟩ : Fin 8)
def kept : PosShare TreeShare := ShareLeaves.leaf 3 fullShare (7 : Fin 8)

/-- Device `c` holds, at share `q`, the elements of slot `j` at contents `f`. -/
def qHold (c j : Dev nD) (q : PosShare TreeShare) (f : S8x512x256.Idx → Elt F .bf16) : sProp 𝕄 :=
  (qSl j).view.loc (c : Thread nD τ) ↦[(qSl j).view.set]{q} f
def oHold (c j : Dev nD) (q : PosShare TreeShare) (f : S8x256x512.Idx → Elt F .bf16) : sProp 𝕄 :=
  (oSl j).view.loc (c : Thread nD τ) ↦[(oSl j).view.set]{q} f

theorem qHold_eq (c j : Dev nD) (q) (f) :
    qHold (F := F) c j q f = (((c : Thread nD τ).loc cc0_scratch0) ↦[qSet j]{q} f : sProp 𝕄) := by unfold qHold; rw [qSl_set]; rfl
theorem oHold_eq (c j : Dev nD) (q) (f) :
    oHold (F := F) c j q f = (((c : Thread nD τ).loc cc0_scratch1) ↦[oSet j]{q} f : sProp 𝕄) := by unfold oHold; rw [oSl_set]; rfl

instance qHold_storable (c j : Dev nD) (q) (f) : BI.Storable (upEmb : UEmb _ 𝕄) (qHold (F := F) c j q f) := by rw [qHold_eq]; infer_instance
instance oHold_storable (c j : Dev nD) (q) (f) : BI.Storable (upEmb : UEmb _ 𝕄) (oHold (F := F) c j q f) := by rw [oHold_eq]; infer_instance

/-- Slot `j` on device `c` at the gathered contents, at share `q`: of the gathered `wq` (`false`) or `wo` (`true`). -/
def slotP (b : Bool) (c j : Dev nD) (q : PosShare TreeShare) : sProp 𝕄 :=
  match b with
  | false => qHold c j q (WQ m ρ)
  | true => oHold c j q (WO m ρ)
/-- Slot `j` on device `c` at any contents. -/
def slotE (b : Bool) (c j : Dev nD) : sProp 𝕄 :=
  match b with
  | false => iprop(∃ f, qHold c j fullShare f)
  | true => iprop(∃ f, oHold c j fullShare f)

instance slotP_storable (b : Bool) (c j : Dev nD) (q) : BI.Storable (upEmb : UEmb _ 𝕄) (slotP (F := F) m ρ b c j q) := by
  cases b <;> unfold slotP <;> infer_instance
instance slotE_storable (b : Bool) (c j : Dev nD) : BI.Storable (upEmb : UEmb _ 𝕄) (slotE (F := F) b c j) := by
  cases b <;> unfold slotE <;> infer_instance

/-- What a copy of a block counts on its cells. -/
def N (b : Bool) : ℕ :=
  match b with
  | false => (qSl 0).view.dmaCredit
  | true => (oSl 0).view.dmaCredit
theorem N_pos (b : Bool) : 0 < N b := by cases b <;> exact View.dmaCredit_pos _ (by decide)
theorem qSl_credit (j : Dev nD) : (qSl j).view.dmaCredit = N false := rfl
theorem oSl_credit (j : Dev nD) : (oSl j).view.dmaCredit = N true := rfl

/-! ## The schedule -/

/-- What device `p`'s signal hands device `c`: `p`'s two slots `c`, and that `p` is at round 0 of the two receive cells. -/
def barPay (c p : Dev nD) : sProp 𝕄 :=
  iprop((slotE false p c ∗ slotE true p c) ∗ reached ER (recvCell false p c) 0 ∗ reached ER (recvCell true p c) 0)

/-- The one round of the exchange. -/
def gatherRd : Rounds.Schedule (GSem nD τ sig) (Dev nD) 𝕄 where
  duties g r := if r = 0 ∧ g.1.2 = .tc then
      (match role g.2 with
        | none => ∅
        | some none => Finset.univ.erase g.1.1
        | some (some (_, .inl _)) => {0}
        | some (some (_, .inr j)) => if j = g.1.1 then ∅ else {0})
    else ∅
  unitless _ := False
  amount g _ _ := match role g.2 with
    | some (some (b, _)) => N b
    | _ => 1
  payload g _ d := match role g.2 with
    | none => iprop(emp)
    | some none => barPay g.1.1 d
    | some (some (b, .inl s)) => slotP m ρ b g.1.1 g.1.1 (lent s)
    | some (some (b, .inr j)) => slotP m ρ b g.1.1 j fullShare
  amount_pos g _ _ _ := by
    split
    · exact N_pos _
    · exact Nat.one_pos

instance gatherRd_payload_storable (g : GSem nD τ sig) (r : ℕ) (d : Dev nD) :
    BI.Storable (upEmb : UEmb _ 𝕄) ((gatherRd (F := F) m ρ).payload g r d) := by
  unfold gatherRd barPay; dsimp only
  split <;> infer_instance

section Sched
variable (c : Dev nD) (b : Bool) (s : Fin 7) (j : Dev nD)

theorem duties_bar : (gatherRd (F := F) m ρ).duties (barCell c) 0 = Finset.univ.erase c := by
  dsimp only [gatherRd]; rw [if_pos ⟨rfl, rfl⟩, role_csem]
theorem duties_send : (gatherRd (F := F) m ρ).duties (sendCell b c s) 0 = {0} := by
  dsimp only [gatherRd]; rw [if_pos ⟨rfl, rfl⟩, role_csem]
theorem duties_recv (h : j ≠ c) : (gatherRd (F := F) m ρ).duties (recvCell b c j) 0 = {0} := by
  dsimp only [gatherRd]; rw [if_pos ⟨rfl, rfl⟩, role_csem]; exact if_neg h
theorem duties_own (r : ℕ) : (gatherRd (F := F) m ρ).duties (recvCell b c c) r = ∅ := by
  dsimp only [gatherRd]
  split
  · rw [role_csem]; exact if_pos rfl
  · rfl
theorem duties_later (g : GSem nD τ sig) : ∀ r, 1 ≤ r → (gatherRd (F := F) m ρ).duties g r = ∅ :=
  fun r hr => by dsimp only [gatherRd]; rw [if_neg fun h => by omega]

theorem amount_bar (d : Dev nD) : (gatherRd (F := F) m ρ).amount (barCell c) 0 d = 1 := by dsimp only [gatherRd]; rw [role_csem]
theorem amount_send (d : Dev nD) : (gatherRd (F := F) m ρ).amount (sendCell b c s) 0 d = N b := by dsimp only [gatherRd]; rw [role_csem]
theorem amount_recv (d : Dev nD) : (gatherRd (F := F) m ρ).amount (recvCell b c j) 0 d = N b := by dsimp only [gatherRd]; rw [role_csem]

theorem payload_bar (d : Dev nD) : (gatherRd (F := F) m ρ).payload (barCell c) 0 d = barPay c d := by dsimp only [gatherRd]; rw [role_csem]
theorem payload_send (d : Dev nD) : (gatherRd (F := F) m ρ).payload (sendCell b c s) 0 d = slotP m ρ b c c (lent s) := by
  dsimp only [gatherRd]; rw [role_csem]
theorem payload_recv (d : Dev nD) : (gatherRd (F := F) m ρ).payload (recvCell b c j) 0 d = slotP m ρ b c j fullShare := by
  dsimp only [gatherRd]; rw [role_csem]

theorem expect_bar : (gatherRd (F := F) m ρ).expect (barCell c) 0 = 7 := by
  unfold Schedule.expect Schedule.amountOf
  rw [duties_bar, Finset.sum_congr rfl fun d _ => amount_bar m ρ c d, Finset.sum_const, Finset.card_erase_of_mem (Finset.mem_univ _),
    Finset.card_univ]; rfl
theorem expect_send : (gatherRd (F := F) m ρ).expect (sendCell b c s) 0 = N b := by
  unfold Schedule.expect Schedule.amountOf; rw [duties_send, Finset.sum_singleton, amount_send]
theorem expect_recv (h : j ≠ c) : (gatherRd (F := F) m ρ).expect (recvCell b c j) 0 = N b := by
  unfold Schedule.expect Schedule.amountOf; rw [duties_recv m ρ c b j h, Finset.sum_singleton, amount_recv]

/-- What is conjoined over the other devices, shift by shift. -/
theorem bigSep_erase_peer (Φ : Dev nD → sProp 𝕄) :
    bigSep (Finset.univ.erase c) Φ = bigSep Finset.univ fun s : Fin 7 => Φ (peer s c) := by
  rw [erase_eq, bigSep_map]; rfl
theorem bigSep_peers (Φ : Dev nD → sProp 𝕄) :
    bigSep Finset.univ Φ = iprop(Φ c ∗ bigSep Finset.univ fun s : Fin 7 => Φ (peer s c)) := by
  rw [bigSep_erase (Finset.mem_univ c), bigSep_erase_peer]; rfl

theorem rest_bar : bigSep ((gatherRd (F := F) m ρ).duties (barCell c) 0 \ ∅) (fun d => (gatherRd (F := F) m ρ).payload (barCell c) 0 d)
    = bigSep Finset.univ fun s : Fin 7 => barPay c (peer s c) := by
  rw [Finset.sdiff_empty, duties_bar, bigSep_erase_peer]
  exact bigSep_congr fun s _ => payload_bar m ρ c _
theorem rest_send : bigSep ((gatherRd (F := F) m ρ).duties (sendCell b c s) 0 \ ∅) (fun d => (gatherRd (F := F) m ρ).payload (sendCell b c s) 0 d)
    = slotP m ρ b c c (lent s) := by
  rw [Finset.sdiff_empty, duties_send, bigSep_singleton, payload_send]
theorem rest_recv (h : j ≠ c) : bigSep ((gatherRd (F := F) m ρ).duties (recvCell b c j) 0 \ ∅) (fun d => (gatherRd (F := F) m ρ).payload (recvCell b c j) 0 d)
    = slotP m ρ b c j fullShare := by
  rw [Finset.sdiff_empty, duties_recv m ρ c b j h, bigSep_singleton, payload_recv]

end Sched

/-! ## What each device owes at launch; the levels -/

/-- The shift at which `n + 1` copies of a buffer, or signals, are still to come. -/
def sh (n : ℕ) : Fin 7 := ⟨(6 - n) % 7, Nat.mod_lt _ (by decide)⟩

/-- What `c` owes with the copies of the last `n` shifts to come. -/
def owedS (c : Dev nD) : ℕ → CellTallies nD τ sig Unit
  | 0 => 0
  | n + 1 => owedS c n + tallyAt (recvCell true (peer (sh n) c) c) () (N true) + tallyAt (recvCell false (peer (sh n) c) c) () (N false)
/-- What `c` owes with the last `n` signals to come, and all copies. -/
def owedB (c : Dev nD) : ℕ → CellTallies nD τ sig Unit
  | 0 => owedS c 7
  | n + 1 => owedB c n + tallyAt (barCell (peer (sh n) c)) () 1
def O₀ (c : Dev nD) : CellTallies nD τ sig Unit := owedB c 7

def L (g : GSem nD τ sig) : Finset Unit := if g.1.2 = .tc then {()} else ∅
/-- Barrier cells at 1, receive cells at 2, everything else at 0. -/
def lv (g : GSem nD τ sig) (_ : Unit) : ℕ := match role g.2 with
  | some none => 1
  | some (some (_, .inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem owedS_pos (c : Dev nD) {g : GSem nD τ sig} {u : Unit} : ∀ n, 0 < owedS c n g u → ∃ b p, g = recvCell b p c
  | 0, h => absurd h (Nat.lt_irrefl 0)
  | n + 1, h => by
    rw [owedS, Pi.add_apply, Finsupp.add_apply, Pi.add_apply, Finsupp.add_apply, tallyAt_apply, tallyAt_apply] at h
    by_cases h1 : g = recvCell true (peer (sh n) c) c ∧ u = ()
    · exact ⟨_, _, h1.1⟩
    by_cases h2 : g = recvCell false (peer (sh n) c) c ∧ u = ()
    · exact ⟨_, _, h2.1⟩
    rw [if_neg h1, if_neg h2] at h
    exact owedS_pos c n h
theorem owedB_pos (c : Dev nD) {g : GSem nD τ sig} {u : Unit} : ∀ n, 0 < owedB c n g u → (∃ b p, g = recvCell b p c) ∨ ∃ p, g = barCell p
  | 0, h => .inl (owedS_pos c 7 h)
  | n + 1, h => by
    rw [owedB, Pi.add_apply, Finsupp.add_apply, tallyAt_apply] at h
    by_cases h1 : g = barCell (peer (sh n) c) ∧ u = ()
    · exact .inr ⟨_, h1.1⟩
    rw [if_neg h1] at h
    exact owedB_pos c n h

theorem lv_recv (b : Bool) (p j : Dev nD) (u : Unit) : lv (recvCell b p j) u = 2 := by dsimp only [lv]; rw [role_csem]
theorem lv_bar (p : Dev nD) (u : Unit) : lv (barCell p) u = 1 := by dsimp only [lv]; rw [role_csem]

/-- Waiting on a staging cell is allowed at the start and at the end. -/
theorem mayWait_stage (c : Dev nD) (q : DmaSem sig) (hq : role (.dma q) = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by
        rcases owedB_pos c 7 hg with ⟨b, p, rfl⟩ | ⟨p, rfl⟩ <;> exact Finset.mem_singleton_self _)
      (fun p hp => by rw [Finset.mem_singleton.mp hp]; dsimp only [lv]; rw [hq])
      (fun g u hg => by
        rcases owedB_pos c 7 hg with ⟨b, p, rfl⟩ | ⟨p, rfl⟩
        · rw [lv_recv]; decide
        · rw [lv_bar]; decide)
  · rw [MayWait_zero]; iintro -; iempintro

/-- At its barrier wait a device owes its copies only: receive cells, above its barrier cell. -/
theorem mayWait_bar (c : Dev nD) : (levAts L lv : sProp 𝕄) ⊢ MayWait (c : Thread nD τ) (.reg barS) () (owedS c 7) :=
  MayOwe.of_cut (L := L) (lev := lv) 1 (fun p hp => by rw [Finset.mem_singleton.mp hp, L_tc]; exact Finset.mem_singleton_self _)
    (fun g u hg => by obtain ⟨b, p, rfl⟩ := owedS_pos c 7 hg; exact Finset.mem_singleton_self _)
    (fun p hp => by rw [Finset.mem_singleton.mp hp]; exact (lv_bar c ()).le)
    (fun g u hg => by obtain ⟨b, p, rfl⟩ := owedS_pos c 7 hg; rw [lv_recv]; decide)

end Cert.KernelIdeal.Gather

end
-- ==== Proof.Step.lean ====
/-
One rule for each kind of step of the exchange on device `c`: a signal, a copy of a block, a wait on a receive
cell, a wait on a send cell. What a device still holds for the shifts (or slots) to come, and has from the ones
done, is a conjunction over all of them, split at the number done.
-/
module

public import proofs.«01_k».proof.Proof.Protocol

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## A conjunction over the steps, `n` of them done -/

/-- `B` of the first `n`, `A` of the others. -/
def prog {k : ℕ} (n : ℕ) (A B : Fin k → sProp 𝕄) : sProp 𝕄 := bigSep Finset.univ fun s : Fin k => if s.val < n then B s else A s

theorem prog_zero {k : ℕ} (A B : Fin k → sProp 𝕄) : prog 0 A B = bigSep Finset.univ A :=
  bigSep_congr fun s _ => if_neg (Nat.not_lt_zero _)
theorem prog_all {k : ℕ} (A B : Fin k → sProp 𝕄) : prog k A B = bigSep Finset.univ B :=
  bigSep_congr fun s _ => if_pos s.isLt
theorem bigSep_take {k : ℕ} (s : Fin k) (Φ : Fin k → sProp 𝕄) : bigSep Finset.univ Φ = iprop(Φ s ∗ bigSep (Finset.univ.erase s) Φ) :=
  bigSep_erase (Finset.mem_univ s)
/-- The next step takes its `A` and gives back its `B`. -/
theorem prog_step {k : ℕ} (A B : Fin k → sProp 𝕄) (s : Fin k) (n : ℕ) (hn : n = s.val) :
    prog n A B ⊢ iprop(A s ∗ (B s -∗ prog (n + 1) A B)) := by
  subst hn
  unfold prog
  rw [bigSep_take s, bigSep_take s (fun s' : Fin k => if s'.val < s.val + 1 then B s' else A s'),
    if_neg (Nat.lt_irrefl _), if_pos (Nat.lt_succ_self _),
    bigSep_congr (s := Finset.univ.erase s) (Φ := fun s' : Fin k => if s'.val < s.val then B s' else A s')
      (Ψ := fun s' : Fin k => if s'.val < s.val + 1 then B s' else A s') (fun i hi => by
        have hne : i.val ≠ s.val := fun h => (Finset.mem_erase.mp hi).1 (Fin.ext h)
        by_cases h : i.val < s.val
        · rw [if_pos h, if_pos (by omega)]
        · rw [if_neg h, if_neg (by omega)])]
  iintro ⟨HA, HR⟩
  isplitl [HA]; · iexact HA
  iintro HB
  isplitl [HB]; · iexact HB
  iexact HR
/-- What a step done has left can be read off and put back. -/
theorem prog_done {k : ℕ} (A B : Fin k → sProp 𝕄) (s : Fin k) (n : ℕ) (hn : s.val < n) :
    prog n A B ⊢ iprop(B s ∗ (B s -∗ prog n A B)) := by
  unfold prog
  rw [bigSep_take s, if_pos hn]
  iintro ⟨HA, HR⟩
  isplitl [HA]; · iexact HA
  iintro HB
  isplitl [HB]; · iexact HB
  iexact HR

/-! ## What every device knows -/

/-- The cells' invariants under the names `K`, that every cell's round 0 is reached, and the levels. -/
def ctx (K : Dev nD × Role → ℕ) : sProp 𝕄 :=
  iprop(((bigSep Finset.univ fun ck : Dev nD × Role => cellInv ER (gatherRd m ρ) (K ck) (kcell ck))
    ∗ bigSep Finset.univ fun ck : Dev nD × Role => reached ER (kcell ck) 0) ∗ levAts L lv)

instance ctx_persistent (K : Dev nD × Role → ℕ) : BI.Persistent (ctx m ρ K) := by unfold ctx; infer_instance

theorem inv_at (K : Dev nD × Role → ℕ) (ck : Dev nD × Role) :
    (bigSep Finset.univ fun ck : Dev nD × Role => (cellInv ER (gatherRd m ρ) (K ck) (kcell ck) : sProp 𝕄)) ⊢ cellInv ER (gatherRd m ρ) (K ck) (kcell ck) :=
  bigSep_elim (Finset.mem_univ ck)
theorem reached_at (ck : Dev nD × Role) :
    (bigSep Finset.univ fun ck : Dev nD × Role => (reached ER (kcell ck) 0 : sProp 𝕄)) ⊢ reached ER (kcell ck) 0 :=
  bigSep_elim (Finset.mem_univ ck)
theorem ctx_inv (K : Dev nD × Role → ℕ) (ck : Dev nD × Role) : ctx m ρ K ⊢ cellInv ER (gatherRd m ρ) (K ck) (kcell ck) := by
  unfold ctx
  iintro ⟨⟨H, -⟩, -⟩
  iapply (inv_at m ρ K ck); iexact H
theorem ctx_reached (K : Dev nD × Role → ℕ) (ck : Dev nD × Role) : ctx m ρ K ⊢ reached ER (kcell ck) 0 := by
  unfold ctx
  iintro ⟨⟨-, H⟩, -⟩
  iapply (reached_at (F := F) ck); iexact H
theorem ctx_lev (K : Dev nD × Role → ℕ) : ctx m ρ K ⊢ levAts L lv := by
  unfold ctx
  iintro ⟨-, H⟩; iexact H

/-- What a device owes, whatever it has waited on. -/
def owesX (c : Dev nD) (O : CellTallies nD τ sig Unit) : sProp 𝕄 := iprop(∃ W, owes (c : Thread nD τ) O W)

/-! ## The phases -/

/-- The signals: the token of the duty on the other device's barrier cell, and the two slots handed over. -/
def sigP (c : Dev nD) (n : ℕ) : sProp 𝕄 :=
  prog n (fun s : Fin 7 => iprop(dutyTok ER (barCell (peer s c)) 0 c ∗ slotE false c (peer s c) ∗ slotE true c (peer s c))) (fun _ => iprop(emp))
/-- The copies of one buffer's block: both tokens, the slot on the other device, the lent share; then the credit. -/
def sendP (b : Bool) (c : Dev nD) (n : ℕ) : sProp 𝕄 :=
  prog n (fun s : Fin 7 => iprop((dutyTok ER (sendCell b c s) 0 0 ∗ dutyTok ER (recvCell b (peer s c) c) 0 0)
      ∗ slotE b (peer s c) c ∗ slotP m ρ b c c (lent s)))
    (fun s : Fin 7 => cred (tallyAt (sendCell b c s) () (N b)))
/-- The share at which slot `j` is readable on `c` once its block is there. -/
def shareOf (c j : Dev nD) : PosShare TreeShare := if j = c then kept else fullShare
/-- The receipts of one buffer's blocks; the own slot is there from the start. -/
def recvP (b : Bool) (c : Dev nD) (n : ℕ) : sProp 𝕄 :=
  prog n (fun j : Fin 8 => iprop(atPos ER (recvCell b c j) 0 ∅ 0
      ∗ if j = c then slotP m ρ b c c kept else cred (tallyAt (recvCell b c j) () (N b))))
    (fun j : Fin 8 => iprop(semVal (recvCell b c j) 0 ∗ slotP m ρ b c j (shareOf c j)))
/-- The waits for the sends of one buffer's block, each giving its lent share back. -/
def backP (b : Bool) (c : Dev nD) (n : ℕ) : sProp 𝕄 :=
  prog n (fun s : Fin 7 => iprop(atPos ER (sendCell b c s) 0 ∅ 0 ∗ cred (tallyAt (sendCell b c s) () (N b))))
    (fun s : Fin 7 => iprop(semVal (sendCell b c s) 0 ∗ slotP m ρ b c c (lent s)))

theorem owedB_peel (c : Dev nD) (s : Fin 7) : owedB c (7 - s.val) = owedB c (6 - s.val) + tallyAt (barCell (peer s c)) () 1 := by
  fin_cases s <;> rfl
/-- With the first copy of shift `s` made, the second still owed. -/
def owedM (c : Dev nD) (s : Fin 7) : CellTallies nD τ sig Unit := owedS c (6 - s.val) + tallyAt (recvCell true (peer s c) c) () (N true)
theorem owedS_peel (c : Dev nD) (s : Fin 7) : owedS c (7 - s.val) = owedM c s + tallyAt (recvCell false (peer s c) c) () (N false) := by
  fin_cases s <;> rfl

section Rules

variable (K : Dev nD × Role → ℕ) (c : Dev nD)

/-- The weakest precondition of a program of device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-- The signal of shift `s`. -/
theorem sig_step (s : Fin 7) (n : Dev nD) (hn : n = peer s c) (k' : ℕ) (hk : k' = 1) {α : Type} {Q : α → sProp 𝕄} {k : PUnit → Prog (TpuEff nD τ sig (Elt F) Λ₀ .tc) α} :
    iprop(ctx m ρ K ∗ owesX c (owedB c (7 - s.val)) ∗ sigP c s.val)
      ⊢ iprop(((owesX c (owedB c (6 - s.val)) ∗ sigP c (s.val + 1)) -∗ WP c (k ⟨⟩) Q)
          -∗ WP c (.op (.semSignal (n : Thread nD τ) barS k') k) Q) := by
  subst hn hk
  unfold owesX sigP
  iintro ⟨#Hc, ⟨%W, HO⟩, HP⟩ Hk
  ihave HP := (prog_step _ _ s _ rfl) $$ HP
  icases HP with ⟨⟨Ht, HE⟩, Hback⟩
  iapply (Rounds.wp_signal 𝒱₀ ER (gatherRd m ρ) (c : Thread nD τ) none (dst := (peer s c : Thread nD τ)) (κ := K (peer s c, none))
      (sem := barS) (r := 0) (d := c) (by rw [show (((peer s c : Dev nD) : Thread nD τ), SemLoc.reg barS) = barCell (peer s c) from rfl, duties_bar]; exact Finset.mem_erase.mpr ⟨(peer_ne s c).symm, Finset.mem_univ _⟩)
      (amount_bar m ρ (peer s c) c) () (owedB c (6 - s.val)) (owedB_peel c s)) $$ [HO Ht HE]
  · isplitr; · iapply (ctx_inv m ρ K (peer s c, none)); iexact Hc
    isplitl [HO]; · iexact HO
    isplitl [Ht]; · iexact Ht
    isplitl [HE]
    · iapply (Entails.of_eq (show barPay (peer s c) c = (gatherRd m ρ).payload (((peer s c : Dev nD) : Thread nD τ), SemLoc.reg barS) 0 c from (payload_bar m ρ (peer s c) c).symm))
      unfold barPay
      isplitl [HE]; · iexact HE
      isplitr; · iapply (ctx_reached m ρ K (c, some (false, .inr (peer s c)))); iexact Hc
      iapply (ctx_reached m ρ K (c, some (true, .inr (peer s c)))); iexact Hc
    · iapply (ctx_reached m ρ K (peer s c, none)); iexact Hc
  iintro HO
  iapply Hk
  isplitl [HO]; · iexists W; iexact HO
  iapply Hback; iempintro

/-- Writing what a slot of the gathered contents reads, into the slot, leaves the gathered contents there. -/
theorem qHold_landed (p j : Dev nD) (fd f : S8x512x256.Idx → Elt F .bf16) :
    ((qSl j).view.loc (p : Thread nD τ) ↦[(qSl j).view.set]{fullShare} ((qSl j).view.write (Elt F) fd ((qSl j).view.read (Elt F) f) Finset.univ) : sProp 𝕄)
      = qHold p j fullShare f := by
  unfold qHold
  refine pointsTo_congr fun i hi => ?_
  obtain ⟨x, -, rfl⟩ := Finset.mem_map.mp hi
  exact View.write_emb_of_mem (v := (qSl j).view) fd _ (Finset.mem_univ x)
theorem oHold_landed (p j : Dev nD) (fd f : S8x256x512.Idx → Elt F .bf16) :
    ((oSl j).view.loc (p : Thread nD τ) ↦[(oSl j).view.set]{fullShare} ((oSl j).view.write (Elt F) fd ((oSl j).view.read (Elt F) f) Finset.univ) : sProp 𝕄)
      = oHold p j fullShare f := by
  unfold oHold
  refine pointsTo_congr fun i hi => ?_
  obtain ⟨x, -, rfl⟩ := Finset.mem_map.mp hi
  exact View.write_emb_of_mem (v := (oSl j).view) fd _ (Finset.mem_univ x)

/-- The copy of the `wq` block of shift `s`. -/
theorem send_q (s : Fin 7) (n : Dev nD) (hn : n = peer s c) (M₁ M₂ : Memref sig .tc .vmem S512x256 .bf16) (h₁ : M₁ = qSl c) (h₂ : M₂ = qSl c)
    (sS sR : SemLoc sig) (hS : sS = csem (some (false, .inl s))) (hR : sR = csem (some (false, .inr c)))
    {hsc : (M₂ : Memref sig (Dev.tc n : Thread nD τ).2.kind .vmem S512x256 .bf16).view.ref.isScScratch = false}
    {hsrc : M₁.view.WordExact} {hdst : M₂.view.WordExact}
    {hsem : DmaTarget.Typed .vmem sR (.remote (Dev.tc n : Thread nD τ) (M₂ : Memref sig .tc .vmem S512x256 .bf16) sS hsc)}
    {α : Type} {Q : α → sProp 𝕄} {k : PUnit → Prog (TpuEff nD τ sig (Elt F) Λ₀ .tc) α} :
    iprop(ctx m ρ K ∗ owesX c (owedS c (7 - s.val)) ∗ sendP m ρ false c s.val)
      ⊢ iprop(((owesX c (owedM c s) ∗ sendP m ρ false c (s.val + 1)) -∗ WP c (k ⟨⟩) Q)
          -∗ WP c (.op (.enqueueDma M₁ (.remote (Dev.tc n : Thread nD τ) M₂ sS hsc) sR hsrc hdst hsem) k) Q) := by
  subst hn h₁ h₂ hS hR
  unfold owesX sendP
  iintro ⟨#Hc, ⟨%W, HO⟩, HP⟩ Hk
  ihave HP := (prog_step _ _ s _ rfl) $$ HP
  icases HP with ⟨⟨⟨Ht1, Ht2⟩, HE, HS⟩, Hback⟩
  unfold slotE
  icases HE with ⟨%fd, HE⟩
  iapply (Rounds.wp_send_pointsTo 𝒱₀ ER (gatherRd m ρ) (c : Thread nD τ) none (c' := (peer s c : Thread nD τ)) (src := qSl c) (dst := qSl c) (sS := csem (some (false, .inl s))) (sem := csem (some (false, .inr c))) (κ₁ := K (c, some (false, .inl s))) (κ₂ := K (peer s c, some (false, .inr c)))
    (r₁ := 0) (r₂ := 0) (d₁ := 0) (d₂ := 0) (fd := fd) (fs := WQ m ρ) (q := lent s)
    (by rw [duties_send]; exact Finset.mem_singleton_self _) (by rw [duties_recv m ρ (peer s c) false c (peer_ne s c).symm]; exact Finset.mem_singleton_self _)
    () () (N false) (show (qSl c).view.amount (csem (some (false, .inr c))) = N false from qSl_credit c) (amount_send m ρ c false s 0) (amount_recv m ρ (peer s c) false c 0) (owedM c s) (owedS_peel c s) (W := W)
    (by rw [payload_send]; exact BI.Entails.refl _)
    (by rw [payload_recv]; exact Entails.of_eq (qHold_landed (peer s c) c fd (WQ m ρ)))) $$ [HO Ht1 Ht2 HE HS]
  · isplitr; · iapply (ctx_inv m ρ K (c, some (false, .inl s))); iexact Hc
    isplitr; · iapply (ctx_inv m ρ K (peer s c, some (false, .inr c))); iexact Hc
    isplitl [HS]; · unfold slotP qHold; iexact HS
    isplitl [HE]; · unfold qHold; iexact HE
    isplitl [HO]; · iexact HO
    isplitl [Ht1]; · iexact Ht1
    isplitr; · iapply (ctx_reached m ρ K (c, some (false, .inl s))); iexact Hc
    isplitl [Ht2]; · iexact Ht2
    iapply (ctx_reached m ρ K (peer s c, some (false, .inr c))); iexact Hc
  iintro ⟨Hcr, HO⟩
  iapply Hk
  isplitl [HO]; · iexists W; iexact HO
  iapply Hback; iexact Hcr

/-- The copy of the `wo` block of shift `s`. -/
theorem send_o (s : Fin 7) (n : Dev nD) (hn : n = peer s c) (M₁ M₂ : Memref sig .tc .vmem S256x512 .bf16) (h₁ : M₁ = oSl c) (h₂ : M₂ = oSl c)
    (sS sR : SemLoc sig) (hS : sS = csem (some (true, .inl s))) (hR : sR = csem (some (true, .inr c)))
    {hsc : (M₂ : Memref sig (Dev.tc n : Thread nD τ).2.kind .vmem S256x512 .bf16).view.ref.isScScratch = false}
    {hsrc : M₁.view.WordExact} {hdst : M₂.view.WordExact}
    {hsem : DmaTarget.Typed .vmem sR (.remote (Dev.tc n : Thread nD τ) (M₂ : Memref sig .tc .vmem S256x512 .bf16) sS hsc)}
    {α : Type} {Q : α → sProp 𝕄} {k : PUnit → Prog (TpuEff nD τ sig (Elt F) Λ₀ .tc) α} :
    iprop(ctx m ρ K ∗ owesX c (owedM c s) ∗ sendP m ρ true c s.val)
      ⊢ iprop(((owesX c (owedS c (6 - s.val)) ∗ sendP m ρ true c (s.val + 1)) -∗ WP c (k ⟨⟩) Q)
          -∗ WP c (.op (.enqueueDma M₁ (.remote (Dev.tc n : Thread nD τ) M₂ sS hsc) sR hsrc hdst hsem) k) Q) := by
  subst hn h₁ h₂ hS hR
  unfold owesX sendP
  iintro ⟨#Hc, ⟨%W, HO⟩, HP⟩ Hk
  ihave HP := (prog_step _ _ s _ rfl) $$ HP
  icases HP with ⟨⟨⟨Ht1, Ht2⟩, HE, HS⟩, Hback⟩
  unfold slotE
  icases HE with ⟨%fd, HE⟩
  iapply (Rounds.wp_send_pointsTo 𝒱₀ ER (gatherRd m ρ) (c : Thread nD τ) none (c' := (peer s c : Thread nD τ)) (src := oSl c) (dst := oSl c) (sS := csem (some (true, .inl s))) (sem := csem (some (true, .inr c))) (κ₁ := K (c, some (true, .inl s))) (κ₂ := K (peer s c, some (true, .inr c)))
    (r₁ := 0) (r₂ := 0) (d₁ := 0) (d₂ := 0) (fd := fd) (fs := WO m ρ) (q := lent s)
    (by rw [duties_send]; exact Finset.mem_singleton_self _) (by rw [duties_recv m ρ (peer s c) true c (peer_ne s c).symm]; exact Finset.mem_singleton_self _)
    () () (N true) (show (oSl c).view.amount (csem (some (true, .inr c))) = N true from oSl_credit c) (amount_send m ρ c true s 0) (amount_recv m ρ (peer s c) true c 0) (owedS c (6 - s.val)) rfl (W := W)
    (by rw [payload_send]; exact BI.Entails.refl _)
    (by rw [payload_recv]; exact Entails.of_eq (oHold_landed (peer s c) c fd (WO m ρ)))) $$ [HO Ht1 Ht2 HE HS]
  · isplitr; · iapply (ctx_inv m ρ K (c, some (true, .inl s))); iexact Hc
    isplitr; · iapply (ctx_inv m ρ K (peer s c, some (true, .inr c))); iexact Hc
    isplitl [HS]; · unfold slotP oHold; iexact HS
    isplitl [HE]; · unfold oHold; iexact HE
    isplitl [HO]; · iexact HO
    isplitl [Ht1]; · iexact Ht1
    isplitr; · iapply (ctx_reached m ρ K (c, some (true, .inl s))); iexact Hc
    isplitl [Ht2]; · iexact Ht2
    iapply (ctx_reached m ρ K (peer s c, some (true, .inr c))); iexact Hc
  iintro ⟨Hcr, HO⟩
  iapply Hk
  isplitl [HO]; · iexists W; iexact HO
  iapply Hback; iexact Hcr

/-- The wait for the others' signals: the slots on the other devices come with it. -/
theorem bar_wait (k' : ℕ) (hk : k' = 7) {α : Type} {Q : α → sProp 𝕄} {k : PUnit → Prog (TpuEff nD τ sig (Elt F) Λ₀ .tc) α} :
    iprop(ctx m ρ K ∗ owesX c (owedS c 7) ∗ atPos ER (barCell c) 0 ∅ 0 ∗ cred (tallyAt (barCell c) () 7))
      ⊢ iprop(((owesX c (owedS c 7) ∗ semVal (barCell c) 0 ∗ bigSep Finset.univ fun s : Fin 7 => barPay c (peer s c)) -∗ WP c (k ⟨⟩) Q)
          -∗ WP c (.op (.semWait barS k') k) Q) := by
  subst hk
  unfold owesX
  iintro ⟨#Hc, ⟨%W, HO⟩, HatB, HcB⟩ Hk
  iapply (Rounds.wp_wait_rest_token 𝒱₀ ER (gatherRd m ρ) (c : Thread nD τ) none (κ := K (c, none)) (sm := SemLoc.reg barS)
      (wpE_semWait_eq 𝒱₀ (c : Thread nD τ) none Set.univ) (Set.mem_univ _) () (O := owedS c 7) (W := W) (R := 0) (m := 0) (T := ∅)
      (by rw [Nat.zero_add]; exact (expect_bar m ρ c).symm)) $$ [HcB HO HatB]
  · isplitr; · iapply (ctx_inv m ρ K (c, none)); iexact Hc
    isplitl [HcB]; · iexact HcB
    isplitl [HO]; · iexact HO
    isplitr; · iapply (mayWait_bar c); iapply (ctx_lev m ρ K); iexact Hc
    iexact HatB
  iintro ⟨HO, HatB, -, Hpay⟩
  imod (Rounds.cell_close ER (gatherRd m ρ) (Set.mem_univ (K (c, none))) (fun h => h) (R := 0 + 1) (duties_later m ρ (barCell c))) $$ [HatB] with HzB
  · isplitr; · iapply (ctx_inv m ρ K (c, none)); iexact Hc
    iexact HatB
  iapply Hk
  isplitl [HO]; · iexists _; iexact HO
  isplitl [HzB]; · iexact HzB
  iapply (Entails.of_eq (rest_bar m ρ c)); iexact Hpay

/-- The wait on the receive cell of another device's slot `j`. -/
theorem recv_wait (b : Bool) (j : Dev nD) (hj : j ≠ c) (w : TpuEff nD τ sig (Elt F) Λ₀ .tc PUnit)
    (hw : ∀ P : PUnit → sProp 𝕄, wpE (defs₀ (F := F)) 𝒱₀ (c : Thread nD τ) none Set.univ w P = waitSpec (c : Thread nD τ) Set.univ (csem (some (b, .inr j))) (N b) P)
    {α : Type} {Q : α → sProp 𝕄} {k : PUnit → Prog (TpuEff nD τ sig (Elt F) Λ₀ .tc) α} :
    iprop(ctx m ρ K ∗ owesX c 0 ∗ recvP m ρ b c j.val)
      ⊢ iprop(((owesX c 0 ∗ recvP m ρ b c (j.val + 1)) -∗ WP c (k ⟨⟩) Q) -∗ WP c (.op w k) Q) := by
  unfold owesX recvP
  iintro ⟨#Hc, ⟨%W, HO⟩, HP⟩ Hk
  ihave HP := (prog_step _ _ j _ rfl) $$ HP
  rw [if_neg hj]
  icases HP with ⟨⟨Hat, Hcr⟩, Hback⟩
  iapply (Rounds.wp_wait_rest_token 𝒱₀ ER (gatherRd m ρ) (c : Thread nD τ) none (κ := K (c, some (b, .inr j)))
      hw (Set.mem_univ _) () (O := 0) (W := W) (R := 0) (m := 0) (T := ∅)
      (by rw [Nat.zero_add]; exact (expect_recv m ρ c b j hj).symm)) $$ [Hcr HO Hat]
  · isplitr; · iapply (ctx_inv m ρ K (c, some (b, .inr j))); iexact Hc
    isplitl [Hcr]; · iexact Hcr
    isplitl [HO]; · iexact HO
    isplitr; · rw [MayWait_zero]; iempintro
    iexact Hat
  iintro ⟨HO, Hat, -, Hpay⟩
  imod (Rounds.cell_close ER (gatherRd m ρ) (Set.mem_univ (K (c, some (b, .inr j)))) (fun h => h) (R := 0 + 1) (duties_later m ρ (recvCell b c j))) $$ [Hat] with Hz
  · isplitr; · iapply (ctx_inv m ρ K (c, some (b, .inr j))); iexact Hc
    iexact Hat
  iapply Hk
  isplitl [HO]; · iexists _; iexact HO
  iapply Hback
  isplitl [Hz]; · iexact Hz
  unfold shareOf; rw [if_neg hj]
  iapply (Entails.of_eq (rest_recv m ρ c b j hj)); iexact Hpay

/-- At the own slot nothing is awaited: its receive cell is closed as it is. -/
theorem recv_own (b : Bool) (j : Dev nD) (hj : j = c) :
    iprop(ctx m ρ K ∗ recvP m ρ b c j.val) ⊢ |={Set.univ}=> recvP m ρ b c (j.val + 1) := by
  unfold recvP
  iintro ⟨#Hc, HP⟩
  ihave HP := (prog_step _ _ j _ rfl) $$ HP
  rw [if_pos hj]
  subst hj
  icases HP with ⟨⟨Hat, HS⟩, Hback⟩
  imod (Rounds.cell_close ER (gatherRd m ρ) (Set.mem_univ (K (j, some (b, .inr j)))) (fun h => h) (R := 0) (fun r _ => duties_own m ρ j b r)) $$ [Hat] with Hz
  · isplitr; · iapply (ctx_inv m ρ K (j, some (b, .inr j))); iexact Hc
    iexact Hat
  imodintro
  iapply Hback
  isplitl [Hz]; · iexact Hz
  unfold shareOf; rw [if_pos rfl]; iexact HS

/-- The wait on the send cell of shift `s`. -/
theorem back_wait (b : Bool) (s : Fin 7) (w : TpuEff nD τ sig (Elt F) Λ₀ .tc PUnit)
    (hw : ∀ P : PUnit → sProp 𝕄, wpE (defs₀ (F := F)) 𝒱₀ (c : Thread nD τ) none Set.univ w P = waitSpec (c : Thread nD τ) Set.univ (csem (some (b, .inl s))) (N b) P)
    {α : Type} {Q : α → sProp 𝕄} {k : PUnit → Prog (TpuEff nD τ sig (Elt F) Λ₀ .tc) α} :
    iprop(ctx m ρ K ∗ owesX c 0 ∗ backP m ρ b c s.val)
      ⊢ iprop(((owesX c 0 ∗ backP m ρ b c (s.val + 1)) -∗ WP c (k ⟨⟩) Q) -∗ WP c (.op w k) Q) := by
  unfold owesX backP
  iintro ⟨#Hc, ⟨%W, HO⟩, HP⟩ Hk
  ihave HP := (prog_step _ _ s _ rfl) $$ HP
  icases HP with ⟨⟨Hat, Hcr⟩, Hback⟩
  iapply (Rounds.wp_wait_rest_token 𝒱₀ ER (gatherRd m ρ) (c : Thread nD τ) none (κ := K (c, some (b, .inl s)))
      hw (Set.mem_univ _) () (O := 0) (W := W) (R := 0) (m := 0) (T := ∅)
      (by rw [Nat.zero_add]; exact (expect_send m ρ c b s).symm)) $$ [Hcr HO Hat]
  · isplitr; · iapply (ctx_inv m ρ K (c, some (b, .inl s))); iexact Hc
    isplitl [Hcr]; · iexact Hcr
    isplitl [HO]; · iexact HO
    isplitr; · rw [MayWait_zero]; iempintro
    iexact Hat
  iintro ⟨HO, Hat, -, Hpay⟩
  imod (Rounds.cell_close ER (gatherRd m ρ) (Set.mem_univ (K (c, some (b, .inl s)))) (fun h => h) (R := 0 + 1) (duties_later m ρ (sendCell b c s))) $$ [Hat] with Hz
  · isplitr; · iapply (ctx_inv m ρ K (c, some (b, .inl s))); iexact Hc
    iexact Hat
  iapply Hk
  isplitl [HO]; · iexists _; iexact HO
  iapply Hback
  isplitl [Hz]; · iexact Hz
  iapply (Entails.of_eq (rest_send m ρ c b s)); iexact Hpay

end Rules

end Cert.KernelIdeal.Gather

end
-- ==== Proof.Front.lean ====
/-
The first parts of the body on device `c`: the signals and the wait on the barrier, the stores of the device's own
blocks into its own slots, and the copies of these to the other devices.
-/
module

public import proofs.«01_k».proof.Proof.Step

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The own slots -/

theorem q_access_sub (c : Dev nD) {off : Fin 3 → ℕ} (h : off = ![c.val, 0, 0]) (hi : ∀ a, off a + S1x512x256.size a ≤ S8x512x256.size a) :
    (qM.access (Rect.unit (s := S8x512x256) off S1x512x256.size hi)).set ⊆ qSet c := by
  subst h; exact (View.set_slice_whole _ _).le
theorem o_access_sub (c : Dev nD) {off : Fin 3 → ℕ} (h : off = ![c.val, 0, 0]) (hi : ∀ a, off a + S1x256x512.size a ≤ S8x256x512.size a) :
    (oM.access (Rect.unit (s := S8x256x512) off S1x256x512.size hi)).set ⊆ oSet c := by
  subst h; exact (View.set_slice_whole _ _).le

/-- The own block stored into the own slot is the gathered contents there. -/
theorem q_stored (c : Dev nD) {off : Fin 3 → ℕ} (h : off = ![c.val, 0, 0]) (hi : ∀ a, off a + S1x512x256.size a ≤ S8x512x256.size a)
    (f : S8x512x256.Idx → Elt F .bf16) :
    (((c : Thread nD τ).loc cc0_scratch0) ↦[qSet c]{fullShare}
        ((qM.access (Rect.unit (s := S8x512x256) off S1x512x256.size hi)).write (Elt F) f (k0_pay1 (qB m ρ c)) Finset.univ) : sProp 𝕄)
      = slotP m ρ false c c fullShare := by
  subst h
  unfold slotP; dsimp only; rw [qHold_eq]
  refine pointsTo_congr fun i hi' => ?_
  have hm : i ∈ (qM.access (Rect.unit (s := S8x512x256) ![c.val, 0, 0] S1x512x256.size hi)).set := by
    rw [show (qM.access (Rect.unit (s := S8x512x256) ![c.val, 0, 0] S1x512x256.size hi)).set = qSet c from View.set_slice_whole _ _]; exact hi'
  obtain ⟨x, -, rfl⟩ := Finset.mem_map.mp hm
  refine (View.write_emb_of_mem (v := qM.access (Rect.unit (s := S8x512x256) ![c.val, 0, 0] S1x512x256.size hi)) f _ (Finset.mem_univ x)).trans ?_
  have hv : ∀ a, (((qM.access (Rect.unit (s := S8x512x256) ![c.val, 0, 0] S1x512x256.size hi)).emb x : S8x512x256.Idx) a).val
      = (![c.val, 0, 0] : Fin 3 → ℕ) a + 1 * (x a).val := fun a => rfl
  unfold WQ
  have h0 : (((qM.access (Rect.unit (s := S8x512x256) ![c.val, 0, 0] S1x512x256.size hi)).emb x : S8x512x256.Idx) 0 : Fin 8) = c :=
    Fin.ext (mem_qSet.mp hi')
  rw [h0]
  refine congrArg (k0_pay1 (qB m ρ c)) (funext fun a => Fin.ext ?_)
  fin_cases a
  · have := (x 0).isLt
    show (x 0).val = 0
    exact Nat.lt_one_iff.mp this
  · exact (show (x 1).val = 0 + 1 * (x 1).val by omega).trans (hv 1).symm
  · exact (show (x 2).val = 0 + 1 * (x 2).val by omega).trans (hv 2).symm
theorem o_stored (c : Dev nD) {off : Fin 3 → ℕ} (h : off = ![c.val, 0, 0]) (hi : ∀ a, off a + S1x256x512.size a ≤ S8x256x512.size a)
    (f : S8x256x512.Idx → Elt F .bf16) :
    (((c : Thread nD τ).loc cc0_scratch1) ↦[oSet c]{fullShare}
        ((oM.access (Rect.unit (s := S8x256x512) off S1x256x512.size hi)).write (Elt F) f (k0_pay2 (oB m ρ c)) Finset.univ) : sProp 𝕄)
      = slotP m ρ true c c fullShare := by
  subst h
  unfold slotP; dsimp only; rw [oHold_eq]
  refine pointsTo_congr fun i hi' => ?_
  have hm : i ∈ (oM.access (Rect.unit (s := S8x256x512) ![c.val, 0, 0] S1x256x512.size hi)).set := by
    rw [show (oM.access (Rect.unit (s := S8x256x512) ![c.val, 0, 0] S1x256x512.size hi)).set = oSet c from View.set_slice_whole _ _]; exact hi'
  obtain ⟨x, -, rfl⟩ := Finset.mem_map.mp hm
  refine (View.write_emb_of_mem (v := oM.access (Rect.unit (s := S8x256x512) ![c.val, 0, 0] S1x256x512.size hi)) f _ (Finset.mem_univ x)).trans ?_
  have hv : ∀ a, (((oM.access (Rect.unit (s := S8x256x512) ![c.val, 0, 0] S1x256x512.size hi)).emb x : S8x256x512.Idx) a).val
      = (![c.val, 0, 0] : Fin 3 → ℕ) a + 1 * (x a).val := fun a => rfl
  unfold WO
  have h0 : (((oM.access (Rect.unit (s := S8x256x512) ![c.val, 0, 0] S1x256x512.size hi)).emb x : S8x256x512.Idx) 0 : Fin 8) = c :=
    Fin.ext (mem_oSet.mp hi')
  rw [h0]
  refine congrArg (k0_pay2 (oB m ρ c)) (funext fun a => Fin.ext ?_)
  fin_cases a
  · have := (x 0).isLt
    show (x 0).val = 0
    exact Nat.lt_one_iff.mp this
  · exact (show (x 1).val = 0 + 1 * (x 1).val by omega).trans (hv 1).symm
  · exact (show (x 2).val = 0 + 1 * (x 2).val by omega).trans (hv 2).symm

theorem fin8_split (Φ : Fin 8 → sProp 𝕄) :
    bigSep Finset.univ Φ = iprop(Φ 7 ∗ bigSep Finset.univ fun s : Fin 7 => Φ ⟨s.val, by have := s.isLt; omega⟩) := by
  rw [bigSep_erase (Finset.mem_univ (7 : Fin 8)), show (Finset.univ : Finset (Fin 8)).erase 7
    = Finset.univ.map ⟨fun s : Fin 7 => (⟨s.val, by have := s.isLt; omega⟩ : Fin 8), fun a b h => Fin.ext (Fin.mk.inj h)⟩ by decide, bigSep_map]
  rfl
/-- The own slot held whole is the kept share and the lent ones. -/
theorem slot_shares (b : Bool) (c : Dev nD) :
    slotP m ρ b c c fullShare = iprop(slotP m ρ b c c kept ∗ bigSep Finset.univ fun s : Fin 7 => slotP m ρ b c c (lent s)) := by
  cases b <;> unfold slotP <;> dsimp only
  · simp only [qHold_eq]; rw [ShareLeaves.pointsTo_leaves _ _ 3]; exact fin8_split _
  · simp only [oHold_eq]; rw [ShareLeaves.pointsTo_leaves _ _ 3]; exact fin8_split _

theorem hz2 : (![0, 0] : Fin 2 → Nat) = fun _ => 0 := funext fun a => by fin_cases a <;> rfl
theorem hz3 : (![0, 0, 0] : Fin 3 → Nat) = fun _ => 0 := funext fun a => by fin_cases a <;> rfl

theorem dev_peer {c : Dev nD} (s : Fin 7) {n : ℕ} (h : n = (c.val + (s.val + 1)) % 8) (hl : n < nD) : (⟨n, hl⟩ : Dev nD) = peer s c :=
  Fin.ext h
theorem one_word : (1#32 : BitVec 32).toNat = 1 := rfl
theorem seven_word : (7#32 : BitVec 32).toNat = 7 := rfl

/-- A finished program. -/
theorem wp_done (c : Dev nD) {α : Type} {Q : α → sProp 𝕄} (v : α) : Q v ⊢ WP c (.ret v) Q := by
  iintro HQ
  iapply (Entails.of_eq (wp_ret ..).symm)
  imodintro; iexact HQ

/-! ## The parts -/

section Parts

variable (K : Dev nD × Role → ℕ) (c : Dev nD)

/-- The device's number as the body computes it. -/
abbrev me (c : Dev nD) : BitVec 32 := Scalar.remsi (Scalar.divsi (Dev.word c) 1#32) 8#32

/-- A window's copy held whole. -/
abbrev stgHold (b : Ref sig .tc) (f : b.ty.Contents (Elt F)) : sProp 𝕄 := ((c : Thread nD τ).loc b) ↦{fullShare} f

theorem part1_run {Q : _ → sProp 𝕄} :
    iprop(ctx m ρ K ∗ owesX c (owedB c 7) ∗ sigP c 0)
      ⊢ iprop(((owesX c (owedB c 2) ∗ sigP c 5) -∗ Q ⟨c, me c, SemArray.scalar (sig.barrier 0 rfl), Scalar.addi (me c) 6#32, 8#32⟩)
        -∗ WP c (k0_part1 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_stg5_0) (Memref.isWhole_whole _) qM (Memref.isWhole_whole _) oM (Memref.isWhole_whole _)
            cc0_scratch2 cc0_scratch3 cc0_scratch4 cc0_scratch5) Q) := by
  rw [k0_part1_eq_skeleton]; unfold k0_part1_skel
  simp only [semSignalWord, semWaitWord, Prog.lift, Prog.bind_op, Prog.bind_ret, Prog.pure_eq_ret, wp_deviceId]
  iintro ⟨#Hc, HO, HP⟩ Hk
  iapply (sig_step m ρ K c 0 _ (dev_peer 0 (k0_dev1_eq c) (k0_dev1_lt c)) _ one_word) $$ [HO HP]
  · isplitr; · iexact Hc
    isplitl [HO]; · iexact HO
    iexact HP
  iintro ⟨HO, HP⟩
  iapply (sig_step m ρ K c 1 _ (dev_peer 1 (k0_dev2_eq c) (k0_dev2_lt c)) _ one_word) $$ [HO HP]
  · isplitr; · iexact Hc
    isplitl [HO]; · iexact HO
    iexact HP
  iintro ⟨HO, HP⟩
  iapply (sig_step m ρ K c 2 _ (dev_peer 2 (k0_dev3_eq c) (k0_dev3_lt c)) _ one_word) $$ [HO HP]
  · isplitr; · iexact Hc
    isplitl [HO]; · iexact HO
    iexact HP
  iintro ⟨HO, HP⟩
  iapply (sig_step m ρ K c 3 _ (dev_peer 3 (k0_dev4_eq c) (k0_dev4_lt c)) _ one_word) $$ [HO HP]
  · isplitr; · iexact Hc
    isplitl [HO]; · iexact HO
    iexact HP
  iintro ⟨HO, HP⟩
  iapply (sig_step m ρ K c 4 _ (dev_peer 4 (k0_dev5_eq c) (k0_dev5_lt c)) _ one_word) $$ [HO HP]
  · isplitr; · iexact Hc
    isplitl [HO]; · iexact HO
    iexact HP
  iintro ⟨HO, HP⟩
  iapply (wp_done c)
  iapply Hk
  isplitl [HO]; · iexact HO
  iexact HP

/-- The last two signals, the wait, and the own blocks stored. -/
theorem part2_run (w24 c8 : BitVec 32) {Q : _ → sProp 𝕄} :
    iprop(ctx m ρ K ∗ owesX c (owedB c 2) ∗ sigP c 5 ∗ atPos ER (barCell c) 0 ∅ 0 ∗ cred (tallyAt (barCell c) () 7)
        ∗ stgHold c cc0_stg1_0 (qB m ρ c) ∗ stgHold c cc0_stg4_0 (oB m ρ c) ∗ slotE false c c ∗ slotE true c c)
      ⊢ iprop(((owesX c (owedS c 7) ∗ semVal (barCell c) 0 ∗ (bigSep Finset.univ fun s : Fin 7 => barPay c (peer s c))
            ∗ stgHold c cc0_stg1_0 (qB m ρ c) ∗ stgHold c cc0_stg4_0 (oB m ρ c) ∗ slotP m ρ false c c fullShare ∗ slotP m ρ true c c fullShare)
          -∗ Q (Scalar.remsi (Scalar.addi (me c) 1#32) 8#32))
        -∗ WP c (k0_part2 (F := F) (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _) (Memref.whole cc0_stg4_0) (Memref.isWhole_whole _)
            (Memref.whole cc0_stg5_0) (Memref.isWhole_whole _) qM (Memref.isWhole_whole _) oM (Memref.isWhole_whole _)
            cc0_scratch2 cc0_scratch3 cc0_scratch4 cc0_scratch5 c (me c) (SemArray.scalar (sig.barrier 0 rfl)) w24 c8) Q) := by
  rw [k0_part2_eq_skeleton]; unfold k0_part2_skel
  simp only [semSignalWord, semWaitWord, Prog.lift, Prog.bind_op, Prog.bind_ret, Prog.pure_eq_ret]
  iintro ⟨#Hc, HO, HP, HatB, HcB, H1, H4, Hq, Ho⟩ Hk
  iapply (sig_step m ρ K c 5 _ (dev_peer 5 (k0_dev6_eq c) (k0_dev6_lt c)) _ one_word) $$ [HO HP]
  · isplitr; · iexact Hc
    isplitl [HO]; · iexact HO
    iexact HP
  iintro ⟨HO, HP⟩
  iapply (sig_step m ρ K c 6 _ (dev_peer 6 (k0_dev7_eq c) (k0_dev7_lt c)) _ one_word) $$ [HO HP]
  · isplitr; · iexact Hc
    isplitl [HO]; · iexact HO
    iexact HP
  iintro ⟨HO, -⟩
  iapply (bar_wait m ρ K c _ seven_word) $$ [HO HatB HcB]
  · isplitr; · iexact Hc
    isplitl [HO]; · iexact HO
    isplitl [HatB]; · iexact HatB
    iexact HcB
  iintro ⟨HO, HzB, Hpay⟩
  unfold slotE; dsimp only
  icases Hq with ⟨%fq, Hq⟩
  icases Ho with ⟨%fo, Ho⟩
  ihave Hq := (Entails.of_eq (qHold_eq c c fullShare fq)) $$ Hq
  ihave Ho := (Entails.of_eq (oHold_eq c c fullShare fo)) $$ Ho
  iapply (wp_load 𝒱₀ (c : Thread nD τ) none Set.univ (m := (Memref.whole cc0_stg1_0)) (Finset.subset_univ _)) $$ H1; iintro H1
  iapply (wp_load_rect 𝒱₀ (c : Thread nD τ) none Set.univ (m := qM) (q_access_sub c (k0_off1_eq c) (k0_off1_inb c))) $$ Hq; iintro Hq
  iapply (wp_store 𝒱₀ (c : Thread nD τ) none Set.univ (m := qM) (Mk := Finset.univ) (q_access_sub c (k0_off1_eq c) (k0_off1_inb c))) $$ Hq; iintro Hq
  iapply (wp_load 𝒱₀ (c : Thread nD τ) none Set.univ (m := (Memref.whole cc0_stg4_0)) (Finset.subset_univ _)) $$ H4; iintro H4
  iapply (wp_load_rect 𝒱₀ (c : Thread nD τ) none Set.univ (m := oM) (o_access_sub c (k0_off2_eq c) (k0_off2_inb c))) $$ Ho; iintro Ho
  iapply (wp_store 𝒱₀ (c : Thread nD τ) none Set.univ (m := oM) (Mk := Finset.univ) (o_access_sub c (k0_off2_eq c) (k0_off2_inb c))) $$ Ho; iintro Ho
  iapply (wp_done c)
  iapply Hk
  isplitl [HO]; · iexact HO
  isplitl [HzB]; · iexact HzB
  isplitl [Hpay]; · iexact Hpay
  isplitl [H1]; · iexact H1
  isplitl [H4]; · iexact H4
  isplitl [Hq]
  · iapply (Entails.of_eq ((congrArg (fun v => (((c : Thread nD τ).loc cc0_scratch0) ↦[qSet c]{fullShare}
        ((qM.access (Rect.unit (s := S8x512x256) (k0_off1 c) S1x512x256.size (k0_off1_inb c))).write (Elt F) fq (k0_pay1 v) Finset.univ) : sProp 𝕄))
          (Memref.readAt_unit_zero (Elt F) cc0_stg1_0 hz2 inb_S512x256_S512x256_0_0 (qB m ρ c))).trans (q_stored m ρ c (k0_off1_eq c) (k0_off1_inb c) fq))); iexact Hq
  · iapply (Entails.of_eq ((congrArg (fun v => (((c : Thread nD τ).loc cc0_scratch1) ↦[oSet c]{fullShare}
        ((oM.access (Rect.unit (s := S8x256x512) (k0_off2 c) S1x256x512.size (k0_off2_inb c))).write (Elt F) fo (k0_pay2 v) Finset.univ) : sProp 𝕄))
          (Memref.readAt_unit_zero (Elt F) cc0_stg4_0 hz2 inb_S256x512_S256x512_0_0 (oB m ρ c))).trans (o_stored m ρ c (k0_off2_eq c) (k0_off2_inb c) fo))); iexact Ho

end Parts

end Cert.KernelIdeal.Gather

end
-- ==== Proof.Sends.lean ====
/-
The copies of device `c`'s blocks to the other devices, part by part.
-/
module

public import proofs.«01_k».proof.Proof.Front

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × Role → ℕ) (c : Dev nD)

theorem recv_sem_q (c : Dev nD) : (SemLoc.dma ((cc0_scratch3.slice (Rect.unit (s := S8) (k0_off3 c) S1.size (k0_off3_inb c))).squeeze S_ squeezes_S1_S_).sem : SemLoc sig)
    = csem (some (false, .inr c)) := by revert c; decide
theorem recv_sem_o (c : Dev nD) : (SemLoc.dma ((cc0_scratch5.slice (Rect.unit (s := S8) (k0_off3 c) S1.size (k0_off3_inb c))).squeeze S_ squeezes_S1_S_).sem : SemLoc sig)
    = csem (some (true, .inr c)) := by revert c; decide

/-- From `R` the program ends with the value `v` and `R'`. -/
def Comp (c : Dev nD) {α : Type} (R : sProp 𝕄) (p : Prog (TpuEff nD τ sig (Elt F) Λ₀ .tc) α) (v : α) (R' : sProp 𝕄) : Prop :=
  ∀ Q : α → sProp 𝕄, R ⊢ iprop((R' -∗ Q v) -∗ WP c p Q)

/-- Both blocks' copies, the first `a` of the first block and `b` of the second made. -/
abbrev sends (a b : ℕ) (O : CellTallies nD τ sig Unit) : sProp 𝕄 :=
  iprop(ctx m ρ K ∗ owesX c O ∗ sendP m ρ false c a ∗ sendP m ρ true c b)

theorem q_copy (s : Fin 7) (n : Dev nD) (hn : n = peer s c) (sS : SemLoc sig) (hS : sS = csem (some (false, .inl s)))
    (M₁ M₂ : Memref sig .tc .vmem S512x256 .bf16) (h₁ : M₁ = qSl c) (h₂ : M₂ = qSl c) (sR : SemLoc sig) (hR : sR = csem (some (false, .inr c)))
    {hsc : (M₂ : Memref sig (Dev.tc n : Thread nD τ).2.kind .vmem S512x256 .bf16).view.ref.isScScratch = false}
    {hsrc : M₁.view.WordExact} {hdst : M₂.view.WordExact}
    {hsem : DmaTarget.Typed .vmem sR (.remote (Dev.tc n : Thread nD τ) (M₂ : Memref sig .tc .vmem S512x256 .bf16) sS hsc)}
    {α : Type} {Q : α → sProp 𝕄} {k : PUnit → Prog (TpuEff nD τ sig (Elt F) Λ₀ .tc) α} :
    sends m ρ K c s.val s.val (owedS c (7 - s.val)) ⊢ iprop((sends m ρ K c (s.val + 1) s.val (owedM c s) -∗ WP c (k ⟨⟩) Q)
      -∗ WP c (.op (.enqueueDma M₁ (.remote (Dev.tc n : Thread nD τ) M₂ sS hsc) sR hsrc hdst hsem) k) Q) := by
  iintro ⟨#Hc, HO, HA, HB⟩ Hk
  iapply (send_q m ρ K c s n hn M₁ M₂ h₁ h₂ sS sR hS hR) $$ [HO HA]
  · isplitr; · iexact Hc
    isplitl [HO]; · iexact HO
    iexact HA
  iintro ⟨HO, HA⟩
  iapply Hk
  isplitr; · iexact Hc
  isplitl [HO]; · iexact HO
  isplitl [HA]; · iexact HA
  iexact HB
theorem o_copy (s : Fin 7) (n : Dev nD) (hn : n = peer s c) (sS : SemLoc sig) (hS : sS = csem (some (true, .inl s)))
    (M₁ M₂ : Memref sig .tc .vmem S256x512 .bf16) (h₁ : M₁ = oSl c) (h₂ : M₂ = oSl c) (sR : SemLoc sig) (hR : sR = csem (some (true, .inr c)))
    {hsc : (M₂ : Memref sig (Dev.tc n : Thread nD τ).2.kind .vmem S256x512 .bf16).view.ref.isScScratch = false}
    {hsrc : M₁.view.WordExact} {hdst : M₂.view.WordExact}
    {hsem : DmaTarget.Typed .vmem sR (.remote (Dev.tc n : Thread nD τ) (M₂ : Memref sig .tc .vmem S256x512 .bf16) sS hsc)}
    {α : Type} {Q : α → sProp 𝕄} {k : PUnit → Prog (TpuEff nD τ sig (Elt F) Λ₀ .tc) α} :
    sends m ρ K c (s.val + 1) s.val (owedM c s) ⊢ iprop((sends m ρ K c (s.val + 1) (s.val + 1) (owedS c (6 - s.val)) -∗ WP c (k ⟨⟩) Q)
      -∗ WP c (.op (.enqueueDma M₁ (.remote (Dev.tc n : Thread nD τ) M₂ sS hsc) sR hsrc hdst hsem) k) Q) := by
  iintro ⟨#Hc, HO, HA, HB⟩ Hk
  iapply (send_o m ρ K c s n hn M₁ M₂ h₁ h₂ sS sR hS hR) $$ [HO HB]
  · isplitr; · iexact Hc
    isplitl [HO]; · iexact HO
    iexact HB
  iintro ⟨HO, HB⟩
  iapply Hk
  isplitr; · iexact Hc
  isplitl [HO]; · iexact HO
  isplitl [HA]; · iexact HA
  iexact HB

theorem part3_run (w : BitVec 32) : Comp c (sends m ρ K c 0 0 (owedS c 7))
    (k0_part3 (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) qM (Memref.isWhole_whole _) oM (Memref.isWhole_whole _)
        cc0_scratch2 cc0_scratch3 cc0_scratch4 cc0_scratch5 c (me c) w)
    (⟨⟩) (sends m ρ K c 2 1 (owedM c 1)) := by
  intro Q
  rw [k0_part3_eq_skeleton]; unfold k0_part3_skel
  simp only [Prog.lift, Prog.bind_op, Prog.bind_ret, Prog.pure_eq_ret]
  iintro HS Hk
  iapply (q_copy m ρ K c 0 _ (dev_peer 0 (k0_dev8_eq c) (k0_dev8_lt c)) _ rfl _ _ (qSl_eq c (k0_off4_eq c) _) (qSl_eq c (k0_off4_eq c) _) _ (recv_sem_q c)) $$ [HS]; · iexact HS
  iintro HS
  iapply (o_copy m ρ K c 0 _ (dev_peer 0 (k0_dev9_eq c) (k0_dev9_lt c)) _ rfl _ _ (oSl_eq c (k0_off5_eq c) _) (oSl_eq c (k0_off5_eq c) _) _ (recv_sem_o c)) $$ [HS]; · iexact HS
  iintro HS
  iapply (q_copy m ρ K c 1 _ (dev_peer 1 (k0_dev10_eq c) (k0_dev10_lt c)) _ rfl _ _ (qSl_eq c (k0_off4_eq c) _) (qSl_eq c (k0_off4_eq c) _) _ (recv_sem_q c)) $$ [HS]; · iexact HS
  iintro HS
  iapply (wp_done c)
  iapply Hk; iexact HS

theorem part4_run : Comp c (sends m ρ K c 2 1 (owedM c 1))
    (k0_part4 (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) qM (Memref.isWhole_whole _) oM (Memref.isWhole_whole _)
        cc0_scratch2 cc0_scratch3 cc0_scratch4 cc0_scratch5 c (me c))
    (Scalar.remsi (Scalar.addi (me c) 4#32) 8#32) (sends m ρ K c 3 3 (owedS c 4)) := by
  intro Q
  rw [k0_part4_eq_skeleton]; unfold k0_part4_skel
  simp only [Prog.lift, Prog.bind_op, Prog.bind_ret, Prog.pure_eq_ret]
  iintro HS Hk
  iapply (o_copy m ρ K c 1 _ (dev_peer 1 (k0_dev11_eq c) (k0_dev11_lt c)) _ rfl _ _ (oSl_eq c (k0_off5_eq c) _) (oSl_eq c (k0_off5_eq c) _) _ (recv_sem_o c)) $$ [HS]; · iexact HS
  iintro HS
  iapply (q_copy m ρ K c 2 _ (dev_peer 2 (k0_dev12_eq c) (k0_dev12_lt c)) _ rfl _ _ (qSl_eq c (k0_off4_eq c) _) (qSl_eq c (k0_off4_eq c) _) _ (recv_sem_q c)) $$ [HS]; · iexact HS
  iintro HS
  iapply (o_copy m ρ K c 2 _ (dev_peer 2 (k0_dev13_eq c) (k0_dev13_lt c)) _ rfl _ _ (oSl_eq c (k0_off5_eq c) _) (oSl_eq c (k0_off5_eq c) _) _ (recv_sem_o c)) $$ [HS]; · iexact HS
  iintro HS
  iapply (wp_done c)
  iapply Hk; iexact HS

theorem part5_run (w : BitVec 32) : Comp c (sends m ρ K c 3 3 (owedS c 4))
    (k0_part5 (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) qM (Memref.isWhole_whole _) oM (Memref.isWhole_whole _)
        cc0_scratch2 cc0_scratch3 cc0_scratch4 cc0_scratch5 c (me c) w)
    (⟨⟩) (sends m ρ K c 5 4 (owedM c 4)) := by
  intro Q
  rw [k0_part5_eq_skeleton]; unfold k0_part5_skel
  simp only [Prog.lift, Prog.bind_op, Prog.bind_ret, Prog.pure_eq_ret]
  iintro HS Hk
  iapply (q_copy m ρ K c 3 _ (dev_peer 3 (k0_dev14_eq c) (k0_dev14_lt c)) _ rfl _ _ (qSl_eq c (k0_off4_eq c) _) (qSl_eq c (k0_off4_eq c) _) _ (recv_sem_q c)) $$ [HS]; · iexact HS
  iintro HS
  iapply (o_copy m ρ K c 3 _ (dev_peer 3 (k0_dev15_eq c) (k0_dev15_lt c)) _ rfl _ _ (oSl_eq c (k0_off5_eq c) _) (oSl_eq c (k0_off5_eq c) _) _ (recv_sem_o c)) $$ [HS]; · iexact HS
  iintro HS
  iapply (q_copy m ρ K c 4 _ (dev_peer 4 (k0_dev16_eq c) (k0_dev16_lt c)) _ rfl _ _ (qSl_eq c (k0_off4_eq c) _) (qSl_eq c (k0_off4_eq c) _) _ (recv_sem_q c)) $$ [HS]; · iexact HS
  iintro HS
  iapply (wp_done c)
  iapply Hk; iexact HS

theorem part6_run : Comp c (sends m ρ K c 5 4 (owedM c 4))
    (k0_part6 (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) qM (Memref.isWhole_whole _) oM (Memref.isWhole_whole _)
        cc0_scratch2 cc0_scratch3 cc0_scratch4 cc0_scratch5 c (me c))
    (Scalar.remsi (Scalar.addi (me c) 7#32) 8#32) (sends m ρ K c 6 6 (owedS c 1)) := by
  intro Q
  rw [k0_part6_eq_skeleton]; unfold k0_part6_skel
  simp only [Prog.lift, Prog.bind_op, Prog.bind_ret, Prog.pure_eq_ret]
  iintro HS Hk
  iapply (o_copy m ρ K c 4 _ (dev_peer 4 (k0_dev17_eq c) (k0_dev17_lt c)) _ rfl _ _ (oSl_eq c (k0_off5_eq c) _) (oSl_eq c (k0_off5_eq c) _) _ (recv_sem_o c)) $$ [HS]; · iexact HS
  iintro HS
  iapply (q_copy m ρ K c 5 _ (dev_peer 5 (k0_dev18_eq c) (k0_dev18_lt c)) _ rfl _ _ (qSl_eq c (k0_off4_eq c) _) (qSl_eq c (k0_off4_eq c) _) _ (recv_sem_q c)) $$ [HS]; · iexact HS
  iintro HS
  iapply (o_copy m ρ K c 5 _ (dev_peer 5 (k0_dev19_eq c) (k0_dev19_lt c)) _ rfl _ _ (oSl_eq c (k0_off5_eq c) _) (oSl_eq c (k0_off5_eq c) _) _ (recv_sem_o c)) $$ [HS]; · iexact HS
  iintro HS
  iapply (wp_done c)
  iapply Hk; iexact HS

theorem part7_run (w : BitVec 32) : Comp c (sends m ρ K c 6 6 (owedS c 1))
    (k0_part7 (F := F) (Memref.whole cc0_stg0_0) (Memref.isWhole_whole _) (Memref.whole cc0_stg1_0) (Memref.isWhole_whole _)
        (Memref.whole cc0_stg2_0) (Memref.isWhole_whole _) (Memref.whole cc0_stg3_0) (Memref.isWhole_whole _) (Memref.whole cc0_stg4_0) (Memref.isWhole_whole _)
        (Memref.whole cc0_stg5_0) (Memref.isWhole_whole _) qM (Memref.isWhole_whole _) oM (Memref.isWhole_whole _)
        cc0_scratch2 cc0_scratch3 cc0_scratch4 cc0_scratch5 c (me c) w)
    (⟨iota .tc S128x128 32 [1] iota_S128x128_d1_w32, k0_pay3, k0_pay4 (me c)⟩) (sends m ρ K c 7 7 (owedS c 0)) := by
  intro Q
  rw [k0_part7_eq_skeleton]; unfold k0_part7_skel
  simp only [Prog.lift, Prog.bind_op, Prog.bind_ret, Prog.pure_eq_ret]
  iintro HS Hk
  iapply (q_copy m ρ K c 6 _ (dev_peer 6 (k0_dev20_eq c) (k0_dev20_lt c)) _ rfl _ _ (qSl_eq c (k0_off4_eq c) _) (qSl_eq c (k0_off4_eq c) _) _ (recv_sem_q c)) $$ [HS]; · iexact HS
  iintro HS
  iapply (o_copy m ρ K c 6 _ (dev_peer 6 (k0_dev21_eq c) (k0_dev21_lt c)) _ rfl _ _ (oSl_eq c (k0_off5_eq c) _) (oSl_eq c (k0_off5_eq c) _) _ (recv_sem_o c)) $$ [HS]; · iexact HS
  iintro HS
  iapply (wp_done c)
  iapply Hk; iexact HS

end Parts

end Cert.KernelIdeal.Gather

end
-- ==== Proof.Rules.lean ====
/-
The steps of the middle of the body on device `c`: the loads of the windows' copies and of the gathered slots, and
the waits for a slot under the printed condition.
-/
module

public import proofs.«01_k».proof.Proof.Sends

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the loads read -/

theorem inbQ (j : Fin 8) : ∀ a, (![j.val, 0, 0] : Fin 3 → ℕ) a + S1x512x256.size a ≤ S8x512x256.size a := by revert j; decide
theorem inbO (j : Fin 8) : ∀ a, (![j.val, 0, 0] : Fin 3 → ℕ) a + S1x256x512.size a ≤ S8x256x512.size a := by revert j; decide
theorem inbH (b : Fin 2) (h : Fin 32) : ∀ a, (![b.val, 0, h.val, 0] : Fin 4 → ℕ) a + S1x128x1x64.size a ≤ S2x128x32x64.size a := by revert b h; decide

/-- Slot `j` of the gathered `wq`, of the gathered `wo`, and head `h` of batch `b` of the keys and of the values. -/
def ldQ (j : Fin 8) : Vec F S1x512x256 .bf16 := qM.view.readAt (Elt F) (Rect.unit (s := S8x512x256) ![j.val, 0, 0] S1x512x256.size (inbQ j)).toLoadRect (WQ m ρ)
def ldO (j : Fin 8) : Vec F S1x256x512 .bf16 := oM.view.readAt (Elt F) (Rect.unit (s := S8x256x512) ![j.val, 0, 0] S1x256x512.size (inbO j)).toLoadRect (WO m ρ)
def ldK (c : Dev nD) (b : Fin 2) (h : Fin 32) : Vec F S1x128x1x64 .bf16 :=
  (Memref.whole cc0_stg2_0).view.readAt (Elt F) (Rect.unit (s := S2x128x32x64) ![b.val, 0, h.val, 0] S1x128x1x64.size (inbH b h)).toLoadRect (kB m ρ c)
def ldV (c : Dev nD) (b : Fin 2) (h : Fin 32) : Vec F S1x128x1x64 .bf16 :=
  (Memref.whole cc0_stg3_0).view.readAt (Elt F) (Rect.unit (s := S2x128x32x64) ![b.val, 0, h.val, 0] S1x128x1x64.size (inbH b h)).toLoadRect (vB m ρ c)

section Rules

variable (K : Dev nD × Role → ℕ) (c : Dev nD)

/-- The state of the middle: the first `n` slots have been waited for; `X` is held aside. -/
def St (X : sProp 𝕄) (n : ℕ) : sProp 𝕄 :=
  iprop(ctx m ρ K ∗ owesX c 0 ∗ recvP m ρ false c n ∗ recvP m ρ true c n
    ∗ stgHold c cc0_stg0_0 (xB m ρ c) ∗ stgHold c cc0_stg2_0 (kB m ρ c) ∗ stgHold c cc0_stg3_0 (vB m ρ c) ∗ X)

theorem Comp.ret {α : Type} (R : sProp 𝕄) (v : α) : Comp c R (.ret v) v R := by
  intro Q
  iintro HR Hk
  iapply (wp_done c)
  iapply Hk; iexact HR

theorem Comp.bind {α β : Type} {R R' R'' : sProp 𝕄} {p : Prog (TpuEff nD τ sig (Elt F) Λ₀ .tc) α} {k : α → Prog (TpuEff nD τ sig (Elt F) Λ₀ .tc) β}
    {v : α} {w : β} (h : Comp c R p v R') (h' : Comp c R' (k v) w R'') : Comp c R (p >>= k) w R'' := by
  intro Q
  iintro HR Hk
  iapply (Entails.of_eq (wp_bind (p := p) (k := k) (Q := Q) ..).symm)
  iapply (h _) $$ HR
  iintro HR
  iapply (h' Q) $$ HR
  iexact Hk

/-- A load of elements `R` holds a share of. -/
theorem Comp.load {α : Type} {R R' : sProp 𝕄} {cs : CoreSpace} {s : Shape} {e : EltTy} {M : Memref sig .tc cs s e} {r : LoadRect s} {hl : M.view.LoadsAt r}
    {k : (r.shape.Idx → Elt F e) → Prog (TpuEff nD τ sig (Elt F) Λ₀ .tc) α} {v : α}
    (S : Finset (Idx (M.view.loc (c : Thread nD τ)))) (q : PosShare TreeShare) (f : Buf (Elt F) (M.view.loc (c : Thread nD τ))) (hS : M.view.setOn r.set ⊆ S)
    (hR : R ⊢ iprop((M.view.loc (c : Thread nD τ) ↦[S]{q} f) ∗ ((M.view.loc (c : Thread nD τ) ↦[S]{q} f) -∗ R)))
    (h : Comp c R (k (M.view.readAt (Elt F) r f)) v R') : Comp c R (.op (.load M r hl) k) v R' := by
  intro Q
  iintro HR Hk
  ihave HR := hR $$ HR
  icases HR with ⟨Hm, Hb⟩
  iapply (wp_load 𝒱₀ (c : Thread nD τ) none Set.univ (m := M) hS) $$ Hm
  iintro Hm
  ihave HR := Hb $$ Hm
  iapply (h Q) $$ HR
  iexact Hk

theorem Comp.conseq {α : Type} {R R₁ R' : sProp 𝕄} {p : Prog (TpuEff nD τ sig (Elt F) Λ₀ .tc) α} {v : α} (h : R ⊢ R₁) (h' : Comp c R₁ p v R') : Comp c R p v R' :=
  fun Q => BIBase.Entails.trans h (h' Q)

theorem St_q (X : sProp 𝕄) (n : ℕ) (j : Fin 8) (hj : j.val < n) :
    St m ρ K c X n ⊢ iprop((((c : Thread nD τ).loc cc0_scratch0) ↦[qSet j]{shareOf c j} (WQ m ρ)) ∗ ((((c : Thread nD τ).loc cc0_scratch0) ↦[qSet j]{shareOf c j} (WQ m ρ)) -∗ St m ρ K c X n)) := by
  rw [← qHold_eq]
  unfold St recvP
  iintro ⟨#Hc, HO, HA, HB, HX⟩
  ihave HA := (prog_done _ _ j _ hj) $$ HA
  icases HA with ⟨⟨Hz, HS⟩, Hb⟩
  unfold slotP; dsimp only
  isplitl [HS]; · iexact HS
  iintro HS
  isplitr; · iexact Hc
  isplitl [HO]; · iexact HO
  isplitl [Hz HS Hb]
  · iapply Hb
    isplitl [Hz]; · iexact Hz
    iexact HS
  isplitl [HB]; · iexact HB
  iexact HX
theorem St_o (X : sProp 𝕄) (n : ℕ) (j : Fin 8) (hj : j.val < n) :
    St m ρ K c X n ⊢ iprop((((c : Thread nD τ).loc cc0_scratch1) ↦[oSet j]{shareOf c j} (WO m ρ)) ∗ ((((c : Thread nD τ).loc cc0_scratch1) ↦[oSet j]{shareOf c j} (WO m ρ)) -∗ St m ρ K c X n)) := by
  rw [← oHold_eq]
  unfold St recvP
  iintro ⟨#Hc, HO, HA, HB, HX⟩
  ihave HB := (prog_done _ _ j _ hj) $$ HB
  icases HB with ⟨⟨Hz, HS⟩, Hb⟩
  unfold slotP; dsimp only
  isplitl [HS]; · iexact HS
  iintro HS
  isplitr; · iexact Hc
  isplitl [HO]; · iexact HO
  isplitl [HA]; · iexact HA
  isplitl [Hz HS Hb]
  · iapply Hb
    isplitl [Hz]; · iexact Hz
    iexact HS
  iexact HX

/-- The load of slot `j` of the gathered `wq`. -/
theorem load_q (X : sProp 𝕄) (n : ℕ) (j : Fin 8) (hj : j.val < n) {off : Fin 3 → ℕ} (hoff : off = ![j.val, 0, 0]) {hi : ∀ a, off a + S1x512x256.size a ≤ S8x512x256.size a}
    {hl : qM.view.LoadsAt (Rect.unit (s := S8x512x256) off S1x512x256.size hi).toLoadRect} {α : Type} {R' : sProp 𝕄}
    {k : Vec F S1x512x256 .bf16 → Prog (TpuEff nD τ sig (Elt F) Λ₀ .tc) α} {v : α} (h : Comp c (St m ρ K c X n) (k (ldQ m ρ j)) v R') :
    Comp c (St m ρ K c X n) (.op (.load qM (Rect.unit (s := S8x512x256) off S1x512x256.size hi).toLoadRect hl) k) v R' := by
  subst hoff
  have hS := q_access_sub j rfl (inbQ j)
  rw [View.set_slice] at hS
  exact Comp.load c (qSet j) _ _ hS (St_q m ρ K c X n j hj) h
/-- The load of slot `j` of the gathered `wo`. -/
theorem load_o (X : sProp 𝕄) (n : ℕ) (j : Fin 8) (hj : j.val < n) {off : Fin 3 → ℕ} (hoff : off = ![j.val, 0, 0]) {hi : ∀ a, off a + S1x256x512.size a ≤ S8x256x512.size a}
    {hl : oM.view.LoadsAt (Rect.unit (s := S8x256x512) off S1x256x512.size hi).toLoadRect} {α : Type} {R' : sProp 𝕄}
    {k : Vec F S1x256x512 .bf16 → Prog (TpuEff nD τ sig (Elt F) Λ₀ .tc) α} {v : α} (h : Comp c (St m ρ K c X n) (k (ldO m ρ j)) v R') :
    Comp c (St m ρ K c X n) (.op (.load oM (Rect.unit (s := S8x256x512) off S1x256x512.size hi).toLoadRect hl) k) v R' := by
  subst hoff
  have hS := o_access_sub j rfl (inbO j)
  rw [View.set_slice] at hS
  exact Comp.load c (oSet j) _ _ hS (St_o m ρ K c X n j hj) h

theorem St_k (X : sProp 𝕄) (n : ℕ) : St m ρ K c X n ⊢ iprop(stgHold c cc0_stg2_0 (kB m ρ c) ∗ (stgHold c cc0_stg2_0 (kB m ρ c) -∗ St m ρ K c X n)) := by
  unfold St
  iintro ⟨#Hc, HO, HA, HB, HX, HK, HV, HY⟩
  isplitl [HK]; · iexact HK
  iintro HK
  isplitr; · iexact Hc
  isplitl [HO]; · iexact HO
  isplitl [HA]; · iexact HA
  isplitl [HB]; · iexact HB
  isplitl [HX]; · iexact HX
  isplitl [HK]; · iexact HK
  isplitl [HV]; · iexact HV
  iexact HY
theorem St_v (X : sProp 𝕄) (n : ℕ) : St m ρ K c X n ⊢ iprop(stgHold c cc0_stg3_0 (vB m ρ c) ∗ (stgHold c cc0_stg3_0 (vB m ρ c) -∗ St m ρ K c X n)) := by
  unfold St
  iintro ⟨#Hc, HO, HA, HB, HX, HK, HV, HY⟩
  isplitl [HV]; · iexact HV
  iintro HV
  isplitr; · iexact Hc
  isplitl [HO]; · iexact HO
  isplitl [HA]; · iexact HA
  isplitl [HB]; · iexact HB
  isplitl [HX]; · iexact HX
  isplitl [HK]; · iexact HK
  isplitl [HV]; · iexact HV
  iexact HY
theorem St_x (X : sProp 𝕄) (n : ℕ) : St m ρ K c X n ⊢ iprop(stgHold c cc0_stg0_0 (xB m ρ c) ∗ (stgHold c cc0_stg0_0 (xB m ρ c) -∗ St m ρ K c X n)) := by
  unfold St
  iintro ⟨#Hc, HO, HA, HB, HX, HK, HV, HY⟩
  isplitl [HX]; · iexact HX
  iintro HX
  isplitr; · iexact Hc
  isplitl [HO]; · iexact HO
  isplitl [HA]; · iexact HA
  isplitl [HB]; · iexact HB
  isplitl [HX]; · iexact HX
  isplitl [HK]; · iexact HK
  isplitl [HV]; · iexact HV
  iexact HY

/-- The load of head `h` of batch `b` of the keys. -/
theorem load_k (X : sProp 𝕄) (n : ℕ) (b : Fin 2) (h : Fin 32) {off : Fin 4 → ℕ} (hoff : off = ![b.val, 0, h.val, 0]) {hi : ∀ a, off a + S1x128x1x64.size a ≤ S2x128x32x64.size a}
    {hl : (Memref.whole cc0_stg2_0).view.LoadsAt (Rect.unit (s := S2x128x32x64) off S1x128x1x64.size hi).toLoadRect} {α : Type} {R' : sProp 𝕄}
    {k : Vec F S1x128x1x64 .bf16 → Prog (TpuEff nD τ sig (Elt F) Λ₀ .tc) α} {v : α} (hk : Comp c (St m ρ K c X n) (k (ldK m ρ c b h)) v R') :
    Comp c (St m ρ K c X n) (.op (.load (Memref.whole cc0_stg2_0) (Rect.unit (s := S2x128x32x64) off S1x128x1x64.size hi).toLoadRect hl) k) v R' := by
  subst hoff
  exact Comp.load c Finset.univ _ _ (Finset.subset_univ _) (St_k m ρ K c X n) hk
/-- The load of head `h` of batch `b` of the values. -/
theorem load_v (X : sProp 𝕄) (n : ℕ) (b : Fin 2) (h : Fin 32) {off : Fin 4 → ℕ} (hoff : off = ![b.val, 0, h.val, 0]) {hi : ∀ a, off a + S1x128x1x64.size a ≤ S2x128x32x64.size a}
    {hl : (Memref.whole cc0_stg3_0).view.LoadsAt (Rect.unit (s := S2x128x32x64) off S1x128x1x64.size hi).toLoadRect} {α : Type} {R' : sProp 𝕄}
    {k : Vec F S1x128x1x64 .bf16 → Prog (TpuEff nD τ sig (Elt F) Λ₀ .tc) α} {v : α} (hk : Comp c (St m ρ K c X n) (k (ldV m ρ c b h)) v R') :
    Comp c (St m ρ K c X n) (.op (.load (Memref.whole cc0_stg3_0) (Rect.unit (s := S2x128x32x64) off S1x128x1x64.size hi).toLoadRect hl) k) v R' := by
  subst hoff
  exact Comp.load c Finset.univ _ _ (Finset.subset_univ _) (St_v m ρ K c X n) hk
/-- The load of the rows. -/
theorem load_x (X : sProp 𝕄) (n : ℕ) {hi : ∀ a, (![0, 0, 0] : Fin 3 → ℕ) a + S2x128x512.size a ≤ S2x128x512.size a}
    {hl : (Memref.whole cc0_stg0_0).view.LoadsAt (Rect.unit (s := S2x128x512) ![0, 0, 0] S2x128x512.size hi).toLoadRect} {α : Type} {R' : sProp 𝕄}
    {k : Vec F S2x128x512 .bf16 → Prog (TpuEff nD τ sig (Elt F) Λ₀ .tc) α} {v : α} (hk : Comp c (St m ρ K c X n) (k (xB m ρ c)) v R') :
    Comp c (St m ρ K c X n) (.op (.load (Memref.whole cc0_stg0_0) (Rect.unit (s := S2x128x512) ![0, 0, 0] S2x128x512.size hi).toLoadRect hl) k) v R' := by
  refine Comp.load c Finset.univ _ _ (Finset.subset_univ _) (St_x m ρ K c X n) ?_
  have e : (Memref.whole cc0_stg0_0).view.readAt (Elt F) (Rect.unit (s := S2x128x512) ![0, 0, 0] S2x128x512.size hi).toLoadRect (xB m ρ c) = xB m ρ c :=
    Memref.readAt_unit_zero (Elt F) cc0_stg0_0 hz3 hi (xB m ρ c)
  exact (congrArg (fun u => Comp c (St m ρ K c X n) (k u) v R') e).mpr hk

/-! ## The waits for a slot -/

/-- The condition under which the body waits for slot `j`. -/
theorem waits_iff (c : Dev nD) (j : Fin 8) :
    Iff (Scalar.cmpi .ne (Scalar.extui (Scalar.cmpi .ne (me c) (BitVec.ofNat 32 j.val)) : BitVec 32) 0#32 = 1#1) (j ≠ c) := by revert c j; decide

theorem fupd_WP {α : Type} (p : Prog (TpuEff nD τ sig (Elt F) Λ₀ .tc) α) (Q : α → sProp 𝕄) : iprop(|={Set.univ}=> WP c p Q) ⊢ WP c p Q :=
  Entails.of_eq (fupd_wp_eq ..)

/-- Slot `j` is waited for where it is not the own one, and is there where it is. -/
theorem slot_wait (X : sProp 𝕄) (j : Dev nD) {P : Prop} [Decidable P] (hP : Iff P (j ≠ c))
    {s₁ s₂ : DmaSem sig} (hs₁ : SemLoc.dma s₁ = csem (some (false, .inr j))) (hs₂ : SemLoc.dma s₂ = csem (some (true, .inr j)))
    {M₁ M₁' : Memref sig .tc .vmem S512x256 .bf16} {M₂ M₂' : Memref sig .tc .vmem S256x512 .bf16} (h₁ : M₁ = qSl j) (h₂ : M₂ = oSl j)
    {e₁ : M₁'.view.WordExact} {e₁' : M₁.view.WordExact} {e₂ : M₂'.view.WordExact} {e₂' : M₂.view.WordExact}
    {α : Type} {R' : sProp 𝕄} {v : α} {k : Prog (TpuEff nD τ sig (Elt F) Λ₀ .tc) α} (hk : Comp c (St m ρ K c X (j.val + 1)) k v R') :
    Comp c (St m ρ K c X j.val) (if h : P then .op (.waitDma2 s₁ M₁' M₁ e₁ e₁') fun _ => .op (.waitDma2 s₂ M₂' M₂ e₂ e₂') fun _ => k else k) v R' := by
  intro Q
  have hk := hk Q
  unfold St at hk ⊢
  by_cases hj : j = c
  · rw [dif_neg (fun h => hP.mp h hj)]
    iintro ⟨#Hc, HO, HA, HB, HX⟩ Hk
    ihave HA := (recv_own m ρ K c false j hj) $$ [HA]
    · isplitr; · iexact Hc
      iexact HA
    ihave HB := (recv_own m ρ K c true j hj) $$ [HB]
    · isplitr; · iexact Hc
      iexact HB
    iapply (fupd_WP c k Q)
    imod HA
    imod HB
    imodintro
    iapply hk $$ [HO HA HB HX]
    · isplitr; · iexact Hc
      isplitl [HO]; · iexact HO
      isplitl [HA]; · iexact HA
      isplitl [HB]; · iexact HB
      iexact HX
    iexact Hk
  · rw [dif_pos (hP.mpr hj)]
    iintro ⟨#Hc, HO, HA, HB, HX⟩ Hk
    iapply (recv_wait m ρ K c false j hj _ (fun P => (wpE_waitDma2_eq ..).trans (by rw [hs₁, h₁]; rfl))) $$ [HO HA]
    · isplitr; · iexact Hc
      isplitl [HO]; · iexact HO
      iexact HA
    iintro ⟨HO, HA⟩
    iapply (recv_wait m ρ K c true j hj _ (fun P => (wpE_waitDma2_eq ..).trans (by rw [hs₂, h₂]; rfl))) $$ [HO HB]
    · isplitr; · iexact Hc
      isplitl [HO]; · iexact HO
      iexact HB
    iintro ⟨HO, HB⟩
    iapply hk $$ [HO HA HB HX]
    · isplitr; · iexact Hc
      isplitl [HO]; · iexact HO
      isplitl [HA]; · iexact HA
      isplitl [HB]; · iexact HB
      iexact HX
    iexact Hk

end Rules

end Cert.KernelIdeal.Gather

end
-- ==== Proof.Mid.lean ====
/-
The parts in the middle of the body: the waits, the loads, and the values computed from them.
-/
module

public import proofs.«01_k».proof.Proof.Rules

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! Each part of the middle, from the values the parts before it hand it: it ends with its printed values of them and
of what it loads. -/

section Parts

variable (K : Dev nD × Role → ℕ) (c : Dev nD)

theorem part8_run (X : sProp 𝕄) (v201 : IVec S128x128 32) (v226 : IVec S128x128 32) (v227 : IVec S128x128 32) :
    Comp c (St m ρ K c X 0) (k0_part8 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v201 v226 v227)
    (⟨k0_pay5 v201 v226 v227, k0_pay6 (F := F) v201 v226 v227, k0_pay7 (xB m ρ c), k0_pay8 (F := F), (Scalar.ofBits .f32 0x00000000#32 : F .f32)⟩) (St m ρ K c X 0) := by
  rw [k0_part8_eq_skeleton]; unfold k0_part8_skel
  simp only [Prog.lift, Prog.bind_op, Prog.bind_ret, Prog.pure_eq_ret]
  refine load_x m ρ K c X 0 ?_
  exact Comp.ret c _ _

theorem part9_run (X : sProp 𝕄) (v259 : IVec S128x128 1) (v266 : IVec S128x1 1) (v268 : FVec F S2x128x512 .bf16) (cst_171 : F .f32) :
    Comp c (St m ρ K c X 0) (k0_part9 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v266 v268 cst_171)
    (⟨k0_pay9 cst_171, k0_pay10 v268 (ldQ m ρ 0), k0_pay11 v259 v266 v268 (ldQ m ρ 0) (ldK m ρ c 0 0) (ldV m ρ c 0 0), k0_pay12 v268 (ldQ m ρ 0)⟩) (St m ρ K c X 1) := by
  rw [k0_part9_eq_skeleton]; unfold k0_part9_skel
  simp only [Prog.lift, Prog.bind_op, Prog.bind_ret, Prog.pure_eq_ret]
  refine slot_wait m ρ K c X 0 (waits_iff c 0) rfl rfl (qSl_eq 0 rfl _) (oSl_eq 0 rfl _) ?_
  refine load_q m ρ K c X 1 0 (by decide) rfl ?_
  refine load_k m ρ K c X 1 0 0 rfl ?_
  refine load_v m ρ K c X 1 0 0 rfl ?_
  exact Comp.ret c _ _

theorem part10_run (X : sProp 𝕄) (v259 : IVec S128x128 1) (v266 : IVec S128x1 1) (v279 : FVec F S128x256 .bf16) (v306 : FVec F S128x64 .bf16) :
    Comp c (St m ρ K c X 1) (k0_part10 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v279 v306)
    (⟨k0_pay13 v259 v266 v306 (ldK m ρ c 0 1) (ldV m ρ c 0 1), k0_pay14 (ldV m ρ c 0 2), k0_pay15 v279 (ldK m ρ c 0 2), k0_pay16 (F := F)⟩) (St m ρ K c X 1) := by
  rw [k0_part10_eq_skeleton]; unfold k0_part10_skel
  simp only [Prog.lift, Prog.bind_op, Prog.bind_ret, Prog.pure_eq_ret]
  refine load_k m ρ K c X 1 0 1 rfl ?_
  refine load_v m ρ K c X 1 0 1 rfl ?_
  refine load_k m ρ K c X 1 0 2 rfl ?_
  refine load_v m ρ K c X 1 0 2 rfl ?_
  exact Comp.ret c _ _

theorem part11_run (X : sProp 𝕄) (v259 : IVec S128x128 1) (v266 : IVec S128x1 1) (v279 : FVec F S128x256 .bf16) (v336 : FVec F S128x64 .bf16) (v340 : FVec F S128x128 .f32) (v341 : FVec F S128x128 .f32) :
    Comp c (St m ρ K c X 1) (k0_part11 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v279 v336 v340 v341)
    (⟨k0_pay17 v259 v266 v336 v340 v341, k0_pay18 (ldV m ρ c 0 3), k0_pay19 v259 v266 v279 (ldK m ρ c 0 3), (constant S128x64 .f32 0x00000000#32 : FVec F S128x64 .f32)⟩) (St m ρ K c X 1) := by
  rw [k0_part11_eq_skeleton]; unfold k0_part11_skel
  simp only [Prog.lift, Prog.bind_op, Prog.bind_ret, Prog.pure_eq_ret]
  refine load_k m ρ K c X 1 0 3 rfl ?_
  refine load_v m ρ K c X 1 0 3 rfl ?_
  exact Comp.ret c _ _

theorem part12_run (X : sProp 𝕄) (v259 : IVec S128x128 1) (v266 : IVec S128x1 1) (v268 : FVec F S2x128x512 .bf16) (v269 : FVec F S128x512 .f32) (v305 : FVec F S128x64 .f32) (v331 : FVec F S128x64 .f32) (v357 : FVec F S128x64 .f32) (v362 : FVec F S128x64 .bf16) (v382 : FVec F S128x128 .bf16) (cst_234 : FVec F S128x64 .f32) :
    Comp c (St m ρ K c X 1) (k0_part12 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v269 v305 v331 v357 v362 v382 cst_234)
    (⟨k0_pay20 v269 v305 v331 v357 v362 v382 cst_234 (ldO m ρ 0), k0_pay21 v268 (ldQ m ρ 0), k0_pay22 (ldV m ρ c 1 0), k0_pay23 v259 v266 v268 (ldQ m ρ 0) (ldK m ρ c 1 0)⟩) (St m ρ K c X 1) := by
  rw [k0_part12_eq_skeleton]; unfold k0_part12_skel
  simp only [Prog.lift, Prog.bind_op, Prog.bind_ret, Prog.pure_eq_ret]
  refine load_o m ρ K c X 1 0 (by decide) rfl ?_
  refine load_q m ρ K c X 1 0 (by decide) rfl ?_
  refine load_k m ρ K c X 1 1 0 rfl ?_
  refine load_v m ρ K c X 1 1 0 rfl ?_
  exact Comp.ret c _ _

theorem part13_run (X : sProp 𝕄) (v259 : IVec S128x128 1) (v266 : IVec S128x1 1) (v395 : FVec F S128x256 .bf16) (v400 : FVec F S128x64 .bf16) (v420 : FVec F S128x128 .bf16) :
    Comp c (St m ρ K c X 1) (k0_part13 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v395 v400 v420)
    (⟨k0_pay24 v400 v420, k0_pay25 v259 v266 v395 (ldK m ρ c 1 1) (ldV m ρ c 1 1), k0_pay26 (ldV m ρ c 1 2), k0_pay27 v395 (ldK m ρ c 1 2), (Scalar.ofBits .f32 0x3E000000#32 : F .f32)⟩) (St m ρ K c X 1) := by
  rw [k0_part13_eq_skeleton]; unfold k0_part13_skel
  simp only [Prog.lift, Prog.bind_op, Prog.bind_ret, Prog.pure_eq_ret]
  refine load_k m ρ K c X 1 1 1 rfl ?_
  refine load_v m ρ K c X 1 1 1 rfl ?_
  refine load_k m ρ K c X 1 1 2 rfl ?_
  refine load_v m ρ K c X 1 1 2 rfl ?_
  exact Comp.ret c _ _

theorem part14_run (X : sProp 𝕄) (v259 : IVec S128x128 1) (v266 : IVec S128x1 1) (v395 : FVec F S128x256 .bf16) (v452 : FVec F S128x64 .bf16) (v454 : FVec F S128x128 .f32) (cst_282 : F .f32) :
    Comp c (St m ρ K c X 1) (k0_part14 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v395 v452 v454 cst_282)
    (⟨k0_pay28 v259 v266 v452 v454 cst_282, k0_pay29 (ldV m ρ c 1 3), k0_pay30 v259 v395 (ldK m ρ c 1 3), (Scalar.ofBits .f32 0x00000000#32 : F .f32), k0_pay31 v266⟩) (St m ρ K c X 1) := by
  rw [k0_part14_eq_skeleton]; unfold k0_part14_skel
  simp only [Prog.lift, Prog.bind_op, Prog.bind_ret, Prog.pure_eq_ret]
  refine load_k m ρ K c X 1 1 3 rfl ?_
  refine load_v m ρ K c X 1 1 3 rfl ?_
  exact Comp.ret c _ _

theorem part15_run (X : sProp 𝕄) (v259 : IVec S128x128 1) (v268 : FVec F S2x128x512 .bf16) (v270 : FVec F S128x512 .f32) (v421 : FVec F S128x64 .f32) (v447 : FVec F S128x64 .f32) (v473 : FVec F S128x64 .f32) (v478 : FVec F S128x64 .bf16) (v493 : FVec F S128x128 .f32) (cst_301 : F .f32) (v495 : IVec S128x128 1) :
    Comp c (St m ρ K c X 1) (k0_part15 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v268 v270 v421 v447 v473 v478 v493 cst_301 v495)
    (⟨k0_pay32 v270 v421 v447 v473 v478 v493 cst_301 v495 (ldO m ρ 0), k0_pay33 v268 (ldQ m ρ 1), k0_pay34 (ldV m ρ c 0 4), k0_pay35 v259 v268 (ldQ m ρ 1) (ldK m ρ c 0 4)⟩) (St m ρ K c X 2) := by
  rw [k0_part15_eq_skeleton]; unfold k0_part15_skel
  simp only [Prog.lift, Prog.bind_op, Prog.bind_ret, Prog.pure_eq_ret]
  refine load_o m ρ K c X 1 0 (by decide) rfl ?_
  refine slot_wait m ρ K c X 1 (waits_iff c 1) rfl rfl (qSl_eq 1 rfl _) (oSl_eq 1 rfl _) ?_
  refine load_q m ρ K c X 2 1 (by decide) rfl ?_
  refine load_k m ρ K c X 2 0 4 rfl ?_
  refine load_v m ρ K c X 2 0 4 rfl ?_
  exact Comp.ret c _ _

theorem part16_run (X : sProp 𝕄) (v259 : IVec S128x128 1) (v266 : IVec S128x1 1) (v514 : FVec F S128x256 .bf16) (v519 : FVec F S128x64 .bf16) (v530 : FVec F S128x128 .f32) :
    Comp c (St m ρ K c X 2) (k0_part16 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v514 v519 v530)
    (⟨k0_pay36 v266 v519 v530, k0_pay37 v259 v266 v514 (ldK m ρ c 0 5) (ldV m ρ c 0 5), k0_pay38 v514, k0_pay39 (ldK m ρ c 0 6)⟩) (St m ρ K c X 2) := by
  rw [k0_part16_eq_skeleton]; unfold k0_part16_skel
  simp only [Prog.lift, Prog.bind_op, Prog.bind_ret, Prog.pure_eq_ret]
  refine load_k m ρ K c X 2 0 5 rfl ?_
  refine load_v m ρ K c X 2 0 5 rfl ?_
  refine load_k m ρ K c X 2 0 6 rfl ?_
  exact Comp.ret c _ _

theorem part17_run (X : sProp 𝕄) (v259 : IVec S128x128 1) (v266 : IVec S128x1 1) (v514 : FVec F S128x256 .bf16) (v567 : FVec F S128x64 .bf16) (v569 : FVec F S128x64 .bf16) :
    Comp c (St m ρ K c X 2) (k0_part17 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v514 v567 v569)
    (⟨k0_pay40 v259 v266 v567 v569 (ldV m ρ c 0 6), k0_pay41 (ldV m ρ c 0 7), k0_pay42 v259 v514 (ldK m ρ c 0 7), k0_pay43 v259 v514 (ldK m ρ c 0 7)⟩) (St m ρ K c X 2) := by
  rw [k0_part17_eq_skeleton]; unfold k0_part17_skel
  simp only [Prog.lift, Prog.bind_op, Prog.bind_ret, Prog.pure_eq_ret]
  refine load_v m ρ K c X 2 0 6 rfl ?_
  refine load_k m ρ K c X 2 0 7 rfl ?_
  refine load_v m ρ K c X 2 0 7 rfl ?_
  exact Comp.ret c _ _

theorem part18_run (X : sProp 𝕄) (v259 : IVec S128x128 1) (v266 : IVec S128x1 1) (v268 : FVec F S2x128x512 .bf16) (v389 : FVec F S128x512 .f32) (v540 : FVec F S128x64 .f32) (v566 : FVec F S128x64 .f32) (v592 : FVec F S128x64 .f32) (v597 : FVec F S128x64 .bf16) (v603 : FVec F S128x128 .f32) (v606 : FVec F S128x128 .f32) :
    Comp c (St m ρ K c X 2) (k0_part18 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v389 v540 v566 v592 v597 v603 v606)
    (⟨k0_pay44 v266 v389 v540 v566 v592 v597 v603 v606 (ldO m ρ 1), k0_pay45 v268 (ldQ m ρ 1), k0_pay46 (ldV m ρ c 1 4), k0_pay47 v259 v268 (ldQ m ρ 1) (ldK m ρ c 1 4), k0_pay48 v259 v268 (ldQ m ρ 1) (ldK m ρ c 1 4)⟩) (St m ρ K c X 2) := by
  rw [k0_part18_eq_skeleton]; unfold k0_part18_skel
  simp only [Prog.lift, Prog.bind_op, Prog.bind_ret, Prog.pure_eq_ret]
  refine load_o m ρ K c X 2 1 (by decide) rfl ?_
  refine load_q m ρ K c X 2 1 (by decide) rfl ?_
  refine load_k m ρ K c X 2 1 4 rfl ?_
  refine load_v m ρ K c X 2 1 4 rfl ?_
  exact Comp.ret c _ _

theorem part19_run (X : sProp 𝕄) (v259 : IVec S128x128 1) (v266 : IVec S128x1 1) (v630 : FVec F S128x256 .bf16) (v635 : FVec F S128x64 .bf16) (v641 : FVec F S128x128 .f32) (v643 : FVec F S128x1 .f32) :
    Comp c (St m ρ K c X 2) (k0_part19 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v630 v635 v641 v643)
    (⟨k0_pay49 v266 v635 v641 v643, k0_pay50 v259 v266 v630 (ldK m ρ c 1 5) (ldV m ρ c 1 5), k0_pay51 v630⟩) (St m ρ K c X 2) := by
  rw [k0_part19_eq_skeleton]; unfold k0_part19_skel
  simp only [Prog.lift, Prog.bind_op, Prog.bind_ret, Prog.pure_eq_ret]
  refine load_k m ρ K c X 2 1 5 rfl ?_
  refine load_v m ρ K c X 2 1 5 rfl ?_
  exact Comp.ret c _ _

theorem part20_run (X : sProp 𝕄) (v259 : IVec S128x128 1) (v266 : IVec S128x1 1) (v630 : FVec F S128x256 .bf16) (v683 : FVec F S128x64 .bf16) :
    Comp c (St m ρ K c X 2) (k0_part20 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v630 v683)
    (⟨k0_pay52 v259 v266 v683 (ldK m ρ c 1 6) (ldV m ρ c 1 6), k0_pay53 (ldV m ρ c 1 7), k0_pay54 v259 v630 (ldK m ρ c 1 7)⟩) (St m ρ K c X 2) := by
  rw [k0_part20_eq_skeleton]; unfold k0_part20_skel
  simp only [Prog.lift, Prog.bind_op, Prog.bind_ret, Prog.pure_eq_ret]
  refine load_k m ρ K c X 2 1 6 rfl ?_
  refine load_v m ρ K c X 2 1 6 rfl ?_
  refine load_k m ρ K c X 2 1 7 rfl ?_
  refine load_v m ρ K c X 2 1 7 rfl ?_
  exact Comp.ret c _ _

theorem part21_run (X : sProp 𝕄) (v266 : IVec S128x1 1) (v268 : FVec F S2x128x512 .bf16) (v505 : FVec F S128x512 .f32) (v656 : FVec F S128x64 .f32) (v682 : FVec F S128x64 .f32) (v708 : FVec F S128x64 .f32) (v713 : FVec F S128x64 .bf16) (v719 : FVec F S128x128 .f32) :
    Comp c (St m ρ K c X 2) (k0_part21 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v266 v268 v505 v656 v682 v708 v713 v719)
    (⟨k0_pay55 v266 v505 v656 v682 v708 v713 v719 (ldO m ρ 1), k0_pay56 v268 (ldQ m ρ 2), k0_pay57 v268 (ldQ m ρ 2), k0_pay58 (ldV m ρ c 0 8), k0_pay59 (ldK m ρ c 0 8), (constant S128x128 .f32 0x00000000#32 : FVec F S128x128 .f32)⟩) (St m ρ K c X 3) := by
  rw [k0_part21_eq_skeleton]; unfold k0_part21_skel
  simp only [Prog.lift, Prog.bind_op, Prog.bind_ret, Prog.pure_eq_ret]
  refine load_o m ρ K c X 2 1 (by decide) rfl ?_
  refine slot_wait m ρ K c X 2 (waits_iff c 2) rfl rfl (qSl_eq 2 rfl _) (oSl_eq 2 rfl _) ?_
  refine load_q m ρ K c X 3 2 (by decide) rfl ?_
  refine load_k m ρ K c X 3 0 8 rfl ?_
  refine load_v m ρ K c X 3 0 8 rfl ?_
  exact Comp.ret c _ _

theorem part22_run (X : sProp 𝕄) (v259 : IVec S128x128 1) (v266 : IVec S128x1 1) (v749 : FVec F S128x256 .bf16) (v750 : FVec F S128x64 .bf16) (v754 : FVec F S128x64 .bf16) (v755 : FVec F S64x128 .bf16) (cst_454 : FVec F S128x128 .f32) :
    Comp c (St m ρ K c X 3) (k0_part22 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v749 v750 v754 v755 cst_454)
    (⟨k0_pay60 v259 v266 v750 v754 v755 cst_454, k0_pay61 (ldV m ρ c 0 9), k0_pay62 v259 v749 (ldK m ρ c 0 9), (Scalar.ofBits .f32 0x00000000#32 : F .f32)⟩) (St m ρ K c X 3) := by
  rw [k0_part22_eq_skeleton]; unfold k0_part22_skel
  simp only [Prog.lift, Prog.bind_op, Prog.bind_ret, Prog.pure_eq_ret]
  refine load_k m ρ K c X 3 0 9 rfl ?_
  refine load_v m ρ K c X 3 0 9 rfl ?_
  exact Comp.ret c _ _

theorem part23_run (X : sProp 𝕄) (v259 : IVec S128x128 1) (v266 : IVec S128x1 1) (v749 : FVec F S128x256 .bf16) (v780 : FVec F S128x64 .bf16) (v795 : FVec F S128x128 .f32) (cst_473 : F .f32) :
    Comp c (St m ρ K c X 3) (k0_part23 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v749 v780 v795 cst_473)
    (⟨k0_pay63 v266 v780 v795 cst_473, k0_pay64 v259 v266 v749 (ldK m ρ c 0 10) (ldV m ρ c 0 10), k0_pay65 v749, k0_pay66 (ldK m ρ c 0 11), (ldV m ρ c 0 11)⟩) (St m ρ K c X 3) := by
  rw [k0_part23_eq_skeleton]; unfold k0_part23_skel
  simp only [Prog.lift, Prog.bind_op, Prog.bind_ret, Prog.pure_eq_ret]
  refine load_k m ρ K c X 3 0 10 rfl ?_
  refine load_v m ρ K c X 3 0 10 rfl ?_
  refine load_k m ρ K c X 3 0 11 rfl ?_
  refine load_v m ρ K c X 3 0 11 rfl ?_
  exact Comp.ret c _ _

theorem part24_run (X : sProp 𝕄) (v259 : IVec S128x128 1) (v266 : IVec S128x1 1) (v268 : FVec F S2x128x512 .bf16) (v624 : FVec F S128x512 .f32) (v775 : FVec F S128x64 .f32) (v801 : FVec F S128x64 .f32) (v827 : FVec F S128x64 .f32) (v828 : FVec F S128x64 .bf16) (v830 : FVec F S128x64 .bf16) (v831 : Vec F S1x128x1x64 .bf16) :
    Comp c (St m ρ K c X 3) (k0_part24 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v624 v775 v801 v827 v828 v830 v831)
    (⟨k0_pay67 v259 v266 v624 v775 v801 v827 v828 v830 v831 (ldO m ρ 2), k0_pay68 v268 (ldQ m ρ 2), k0_pay69 v268 (ldQ m ρ 2), k0_pay70 (ldK m ρ c 1 8)⟩) (St m ρ K c X 3) := by
  rw [k0_part24_eq_skeleton]; unfold k0_part24_skel
  simp only [Prog.lift, Prog.bind_op, Prog.bind_ret, Prog.pure_eq_ret]
  refine load_o m ρ K c X 3 2 (by decide) rfl ?_
  refine load_q m ρ K c X 3 2 (by decide) rfl ?_
  refine load_k m ρ K c X 3 1 8 rfl ?_
  exact Comp.ret c _ _

theorem part25_run (X : sProp 𝕄) (v259 : IVec S128x128 1) (v266 : IVec S128x1 1) (v865 : FVec F S128x256 .bf16) (v866 : FVec F S128x64 .bf16) (v868 : FVec F S128x64 .bf16) :
    Comp c (St m ρ K c X 3) (k0_part25 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v865 v866 v868)
    (⟨k0_pay71 v259 v266 v866 v868 (ldV m ρ c 1 8), k0_pay72 (ldV m ρ c 1 9), k0_pay73 v259 v865 (ldK m ρ c 1 9), k0_pay74 v259 v865 (ldK m ρ c 1 9)⟩) (St m ρ K c X 3) := by
  rw [k0_part25_eq_skeleton]; unfold k0_part25_skel
  simp only [Prog.lift, Prog.bind_op, Prog.bind_ret, Prog.pure_eq_ret]
  refine load_v m ρ K c X 3 1 8 rfl ?_
  refine load_k m ρ K c X 3 1 9 rfl ?_
  refine load_v m ρ K c X 3 1 9 rfl ?_
  exact Comp.ret c _ _

theorem part26_run (X : sProp 𝕄) (v259 : IVec S128x128 1) (v266 : IVec S128x1 1) (v865 : FVec F S128x256 .bf16) (v896 : FVec F S128x64 .bf16) (v907 : FVec F S128x128 .f32) (v908 : FVec F S128 .f32) :
    Comp c (St m ρ K c X 3) (k0_part26 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v865 v896 v907 v908)
    (⟨k0_pay75 v266 v896 v907 v908, k0_pay76 v259 v266 v865 (ldK m ρ c 1 10) (ldV m ρ c 1 10), k0_pay77 v865, k0_pay78 (ldK m ρ c 1 11)⟩) (St m ρ K c X 3) := by
  rw [k0_part26_eq_skeleton]; unfold k0_part26_skel
  simp only [Prog.lift, Prog.bind_op, Prog.bind_ret, Prog.pure_eq_ret]
  refine load_k m ρ K c X 3 1 10 rfl ?_
  refine load_v m ρ K c X 3 1 10 rfl ?_
  refine load_k m ρ K c X 3 1 11 rfl ?_
  exact Comp.ret c _ _

theorem part27_run (X : sProp 𝕄) (v259 : IVec S128x128 1) (v266 : IVec S128x1 1) (v268 : FVec F S2x128x512 .bf16) (v740 : FVec F S128x512 .f32) (v891 : FVec F S128x64 .f32) (v917 : FVec F S128x64 .f32) (v943 : FVec F S128x64 .f32) (v944 : FVec F S128x64 .bf16) (v946 : FVec F S128x64 .bf16) :
    Comp c (St m ρ K c X 3) (k0_part27 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v266 v268 v740 v891 v917 v943 v944 v946)
    (⟨k0_pay79 v259 v266 v740 v891 v917 v943 v944 v946 (ldV m ρ c 1 11) (ldO m ρ 2), k0_pay80 v268 (ldQ m ρ 3), k0_pay81 v268 (ldQ m ρ 3)⟩) (St m ρ K c X 4) := by
  rw [k0_part27_eq_skeleton]; unfold k0_part27_skel
  simp only [Prog.lift, Prog.bind_op, Prog.bind_ret, Prog.pure_eq_ret]
  refine load_v m ρ K c X 3 1 11 rfl ?_
  refine load_o m ρ K c X 3 2 (by decide) rfl ?_
  refine slot_wait m ρ K c X 3 (waits_iff c 3) rfl rfl (qSl_eq 3 rfl _) (oSl_eq 3 rfl _) ?_
  refine load_q m ρ K c X 4 3 (by decide) rfl ?_
  exact Comp.ret c _ _

theorem part28_run (X : sProp 𝕄) (v259 : IVec S128x128 1) (v266 : IVec S128x1 1) (v984 : FVec F S128x256 .bf16) (v985 : FVec F S128x64 .bf16) :
    Comp c (St m ρ K c X 4) (k0_part28 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v984 v985)
    (⟨k0_pay82 v259 v266 v985 (ldK m ρ c 0 12) (ldV m ρ c 0 12), k0_pay83 (ldV m ρ c 0 13), k0_pay84 v984 (ldK m ρ c 0 13), (Scalar.ofBits .f32 0xCE6E6B28#32 : F .f32)⟩) (St m ρ K c X 4) := by
  rw [k0_part28_eq_skeleton]; unfold k0_part28_skel
  simp only [Prog.lift, Prog.bind_op, Prog.bind_ret, Prog.pure_eq_ret]
  refine load_k m ρ K c X 4 0 12 rfl ?_
  refine load_v m ρ K c X 4 0 12 rfl ?_
  refine load_k m ρ K c X 4 0 13 rfl ?_
  refine load_v m ρ K c X 4 0 13 rfl ?_
  exact Comp.ret c _ _

theorem part29_run (X : sProp 𝕄) (v259 : IVec S128x128 1) (v266 : IVec S128x1 1) (v984 : FVec F S128x256 .bf16) (v1015 : FVec F S128x64 .bf16) (v1019 : FVec F S128x128 .f32) (cst_604 : F .f32) :
    Comp c (St m ρ K c X 4) (k0_part29 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v984 v1015 v1019 cst_604)
    (⟨k0_pay85 v259 v266 v1015 v1019 cst_604, k0_pay86 (ldV m ρ c 0 14), k0_pay87 v259 v266 v984 (ldK m ρ c 0 14)⟩) (St m ρ K c X 4) := by
  rw [k0_part29_eq_skeleton]; unfold k0_part29_skel
  simp only [Prog.lift, Prog.bind_op, Prog.bind_ret, Prog.pure_eq_ret]
  refine load_k m ρ K c X 4 0 14 rfl ?_
  refine load_v m ρ K c X 4 0 14 rfl ?_
  exact Comp.ret c _ _

theorem part30_run (X : sProp 𝕄) (v259 : IVec S128x128 1) (v266 : IVec S128x1 1) (v268 : FVec F S2x128x512 .bf16) (v859 : FVec F S128x512 .f32) (v984 : FVec F S128x256 .bf16) (v1010 : FVec F S128x64 .f32) (v1036 : FVec F S128x64 .f32) (v1041 : FVec F S128x64 .bf16) (v1061 : FVec F S128x128 .bf16) :
    Comp c (St m ρ K c X 4) (k0_part30 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v859 v984 v1010 v1036 v1041 v1061)
    (⟨k0_pay88 v259 v266 v859 v984 v1010 v1036 v1041 v1061 (ldK m ρ c 0 15) (ldV m ρ c 0 15) (ldO m ρ 3), k0_pay89 v268, k0_pay90 (ldQ m ρ 3)⟩) (St m ρ K c X 4) := by
  rw [k0_part30_eq_skeleton]; unfold k0_part30_skel
  simp only [Prog.lift, Prog.bind_op, Prog.bind_ret, Prog.pure_eq_ret]
  refine load_k m ρ K c X 4 0 15 rfl ?_
  refine load_v m ρ K c X 4 0 15 rfl ?_
  refine load_o m ρ K c X 4 3 (by decide) rfl ?_
  refine load_q m ρ K c X 4 3 (by decide) rfl ?_
  exact Comp.ret c _ _

theorem part31_run (X : sProp 𝕄) (v259 : IVec S128x128 1) (v266 : IVec S128x1 1) (v1096 : FVec F S128x512 .bf16) (v1098 : FVec F S512x256 .bf16) :
    Comp c (St m ρ K c X 4) (k0_part31 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1096 v1098)
    (⟨k0_pay91 v1096 v1098, k0_pay92 v259 v266 v1096 v1098 (ldK m ρ c 1 12) (ldV m ρ c 1 12), k0_pay93 (ldV m ρ c 1 13), k0_pay94 v1096 v1098 (ldK m ρ c 1 13)⟩) (St m ρ K c X 4) := by
  rw [k0_part31_eq_skeleton]; unfold k0_part31_skel
  simp only [Prog.lift, Prog.bind_op, Prog.bind_ret, Prog.pure_eq_ret]
  refine load_k m ρ K c X 4 1 12 rfl ?_
  refine load_v m ρ K c X 4 1 12 rfl ?_
  refine load_k m ρ K c X 4 1 13 rfl ?_
  refine load_v m ρ K c X 4 1 13 rfl ?_
  exact Comp.ret c _ _

theorem part32_run (X : sProp 𝕄) (v259 : IVec S128x128 1) (v266 : IVec S128x1 1) (v1100 : FVec F S128x256 .bf16) (v1131 : FVec F S128x64 .bf16) (v1133 : FVec F S128x128 .f32) :
    Comp c (St m ρ K c X 4) (k0_part32 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1100 v1131 v1133)
    (⟨k0_pay95 v259 v266 v1131 v1133, k0_pay96 (ldV m ρ c 1 14), k0_pay97 v259 v1100 (ldK m ρ c 1 14), (Scalar.ofBits .f32 0x00000000#32 : F .f32), k0_pay98 v266⟩) (St m ρ K c X 4) := by
  rw [k0_part32_eq_skeleton]; unfold k0_part32_skel
  simp only [Prog.lift, Prog.bind_op, Prog.bind_ret, Prog.pure_eq_ret]
  refine load_k m ρ K c X 4 1 14 rfl ?_
  refine load_v m ρ K c X 4 1 14 rfl ?_
  exact Comp.ret c _ _

theorem part33_run (X : sProp 𝕄) (v259 : IVec S128x128 1) (v266 : IVec S128x1 1) (v975 : FVec F S128x512 .f32) (v1100 : FVec F S128x256 .bf16) (v1126 : FVec F S128x64 .f32) (v1152 : FVec F S128x64 .f32) (v1157 : FVec F S128x64 .bf16) (v1172 : FVec F S128x128 .f32) (cst_688 : F .f32) (v1173 : IVec S128x1 1) :
    Comp c (St m ρ K c X 4) (k0_part33 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v266 v975 v1100 v1126 v1152 v1157 v1172 cst_688 v1173)
    (⟨k0_pay99 v259 v266 v975 v1100 v1126 v1152 v1157 v1172 cst_688 v1173 (ldK m ρ c 1 15) (ldV m ρ c 1 15) (ldO m ρ 3), (Scalar.extui (Scalar.cmpi .ne (me c) 4#32 : BitVec 1) : BitVec 32)⟩) (St m ρ K c X 4) := by
  rw [k0_part33_eq_skeleton]; unfold k0_part33_skel
  simp only [Prog.lift, Prog.bind_op, Prog.bind_ret, Prog.pure_eq_ret]
  refine load_k m ρ K c X 4 1 15 rfl ?_
  refine load_v m ρ K c X 4 1 15 rfl ?_
  refine load_o m ρ K c X 4 3 (by decide) rfl ?_
  exact Comp.ret c _ _

theorem part34_run (X : sProp 𝕄) (v259 : IVec S128x128 1) (v266 : IVec S128x1 1) (v268 : FVec F S2x128x512 .bf16) :
    Comp c (St m ρ K c X 4) (k0_part34 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v266 v268 (Scalar.extui (Scalar.cmpi .ne (me c) 4#32) : BitVec 32))
    (⟨k0_pay100 v268 (ldQ m ρ 4), k0_pay101 v259 v266 v268 (ldQ m ρ 4) (ldK m ρ c 0 16) (ldV m ρ c 0 16), k0_pay102 v268 (ldQ m ρ 4), (ldK m ρ c 0 17)⟩) (St m ρ K c X 5) := by
  rw [k0_part34_eq_skeleton]; unfold k0_part34_skel
  simp only [Prog.lift, Prog.bind_op, Prog.bind_ret, Prog.pure_eq_ret]
  refine slot_wait m ρ K c X 4 (waits_iff c 4) rfl rfl (qSl_eq 4 rfl _) (oSl_eq 4 rfl _) ?_
  refine load_q m ρ K c X 5 4 (by decide) rfl ?_
  refine load_k m ρ K c X 5 0 16 rfl ?_
  refine load_v m ρ K c X 5 0 16 rfl ?_
  refine load_k m ρ K c X 5 0 17 rfl ?_
  exact Comp.ret c _ _

theorem part35_run (X : sProp 𝕄) (v259 : IVec S128x128 1) (v266 : IVec S128x1 1) (v1219 : FVec F S128x256 .bf16) (v1246 : FVec F S128x64 .bf16) (v1247 : Vec F S1x128x1x64 .bf16) :
    Comp c (St m ρ K c X 5) (k0_part35 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1219 v1246 v1247)
    (⟨k0_pay103 v259 v266 v1246 v1247 (ldV m ρ c 0 17), k0_pay104 (ldV m ρ c 0 18), k0_pay105 v259 v1219 (ldK m ρ c 0 18), k0_pay106 v259 v1219 (ldK m ρ c 0 18)⟩) (St m ρ K c X 5) := by
  rw [k0_part35_eq_skeleton]; unfold k0_part35_skel
  simp only [Prog.lift, Prog.bind_op, Prog.bind_ret, Prog.pure_eq_ret]
  refine load_v m ρ K c X 5 0 17 rfl ?_
  refine load_k m ρ K c X 5 0 18 rfl ?_
  refine load_v m ρ K c X 5 0 18 rfl ?_
  exact Comp.ret c _ _

theorem part36_run (X : sProp 𝕄) (v259 : IVec S128x128 1) (v266 : IVec S128x1 1) (v1219 : FVec F S128x256 .bf16) (v1245 : FVec F S128x64 .f32) (v1271 : FVec F S128x64 .f32) (v1276 : FVec F S128x64 .bf16) (v1282 : FVec F S128x128 .f32) (v1284 : FVec F S128x1 .f32) :
    Comp c (St m ρ K c X 5) (k0_part36 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1219 v1245 v1271 v1276 v1282 v1284)
    ((k0_pay107 v259 v266 v1219 v1245 v1271 v1276 v1282 v1284 (ldK m ρ c 0 19) (ldV m ρ c 0 19))) (St m ρ K c X 5) := by
  rw [k0_part36_eq_skeleton]; unfold k0_part36_skel
  simp only [Prog.lift, Prog.bind_op, Prog.bind_ret, Prog.pure_eq_ret]
  refine load_k m ρ K c X 5 0 19 rfl ?_
  refine load_v m ρ K c X 5 0 19 rfl ?_
  exact Comp.ret c _ _

theorem part37_run (X : sProp 𝕄) (v259 : IVec S128x128 1) (v266 : IVec S128x1 1) (v268 : FVec F S2x128x512 .bf16) (v1094 : FVec F S128x512 .f32) (v1325 : FVec F S128x256 .bf16) :
    Comp c (St m ρ K c X 5) (k0_part37 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v1094 v1325)
    (⟨k0_pay108 v1094 v1325 (ldO m ρ 4), k0_pay109 v268 (ldQ m ρ 4), k0_pay110 v259 v266 v268 (ldQ m ρ 4) (ldK m ρ c 1 16) (ldV m ρ c 1 16), k0_pay111 v268 (ldQ m ρ 4)⟩) (St m ρ K c X 5) := by
  rw [k0_part37_eq_skeleton]; unfold k0_part37_skel
  simp only [Prog.lift, Prog.bind_op, Prog.bind_ret, Prog.pure_eq_ret]
  refine load_o m ρ K c X 5 4 (by decide) rfl ?_
  refine load_q m ρ K c X 5 4 (by decide) rfl ?_
  refine load_k m ρ K c X 5 1 16 rfl ?_
  refine load_v m ρ K c X 5 1 16 rfl ?_
  exact Comp.ret c _ _

theorem part38_run (X : sProp 𝕄) (v259 : IVec S128x128 1) (v266 : IVec S128x1 1) (v1335 : FVec F S128x256 .bf16) (v1362 : FVec F S128x64 .bf16) :
    Comp c (St m ρ K c X 5) (k0_part38 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1335 v1362)
    (⟨k0_pay112 v259 v266 v1362 (ldK m ρ c 1 17) (ldV m ρ c 1 17), k0_pay113 (ldV m ρ c 1 18), k0_pay114 v1335 (ldK m ρ c 1 18), k0_pay115 (F := F)⟩) (St m ρ K c X 5) := by
  rw [k0_part38_eq_skeleton]; unfold k0_part38_skel
  simp only [Prog.lift, Prog.bind_op, Prog.bind_ret, Prog.pure_eq_ret]
  refine load_k m ρ K c X 5 1 17 rfl ?_
  refine load_v m ρ K c X 5 1 17 rfl ?_
  refine load_k m ρ K c X 5 1 18 rfl ?_
  refine load_v m ρ K c X 5 1 18 rfl ?_
  exact Comp.ret c _ _

theorem part39_run (X : sProp 𝕄) (v259 : IVec S128x128 1) (v266 : IVec S128x1 1) (v1335 : FVec F S128x256 .bf16) (v1392 : FVec F S128x64 .bf16) (v1396 : FVec F S128x128 .f32) (v1397 : FVec F S128x128 .f32) :
    Comp c (St m ρ K c X 5) (k0_part39 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1335 v1392 v1396 v1397)
    (⟨k0_pay116 v259 v266 v1392 v1396 v1397, k0_pay117 (ldV m ρ c 1 19), k0_pay118 v259 v266 v1335 (ldK m ρ c 1 19), (constant S128x64 .f32 0x00000000#32 : FVec F S128x64 .f32)⟩) (St m ρ K c X 5) := by
  rw [k0_part39_eq_skeleton]; unfold k0_part39_skel
  simp only [Prog.lift, Prog.bind_op, Prog.bind_ret, Prog.pure_eq_ret]
  refine load_k m ρ K c X 5 1 19 rfl ?_
  refine load_v m ρ K c X 5 1 19 rfl ?_
  exact Comp.ret c _ _

theorem part40_run (X : sProp 𝕄) (v259 : IVec S128x128 1) (v268 : FVec F S2x128x512 .bf16) (v1210 : FVec F S128x512 .f32) (v1361 : FVec F S128x64 .f32) (v1387 : FVec F S128x64 .f32) (v1413 : FVec F S128x64 .f32) (v1418 : FVec F S128x64 .bf16) (v1438 : FVec F S128x128 .bf16) (cst_838 : FVec F S128x64 .f32) :
    Comp c (St m ρ K c X 5) (k0_part40 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v268 v1210 v1361 v1387 v1413 v1418 v1438 cst_838)
    (⟨k0_pay119 v1210 v1361 v1387 v1413 v1418 v1438 cst_838 (ldO m ρ 4), k0_pay120 v268 (ldQ m ρ 5), k0_pay121 (ldV m ρ c 0 20), k0_pay122 v259 v268 (ldQ m ρ 5) (ldK m ρ c 0 20)⟩) (St m ρ K c X 6) := by
  rw [k0_part40_eq_skeleton]; unfold k0_part40_skel
  simp only [Prog.lift, Prog.bind_op, Prog.bind_ret, Prog.pure_eq_ret]
  refine load_o m ρ K c X 5 4 (by decide) rfl ?_
  refine slot_wait m ρ K c X 5 (waits_iff c 5) rfl rfl (qSl_eq 5 rfl _) (oSl_eq 5 rfl _) ?_
  refine load_q m ρ K c X 6 5 (by decide) rfl ?_
  refine load_k m ρ K c X 6 0 20 rfl ?_
  refine load_v m ρ K c X 6 0 20 rfl ?_
  exact Comp.ret c _ _

theorem part41_run (X : sProp 𝕄) (v259 : IVec S128x128 1) (v266 : IVec S128x1 1) (v1454 : FVec F S128x256 .bf16) (v1459 : FVec F S128x64 .bf16) (v1474 : FVec F S128x128 .f32) :
    Comp c (St m ρ K c X 6) (k0_part41 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1454 v1459 v1474)
    (⟨k0_pay123 v266 v1459 v1474, k0_pay124 v259 v266 v1454 (ldK m ρ c 0 21) (ldV m ρ c 0 21), k0_pay125 v1454, k0_pay126 (ldK m ρ c 0 22)⟩) (St m ρ K c X 6) := by
  rw [k0_part41_eq_skeleton]; unfold k0_part41_skel
  simp only [Prog.lift, Prog.bind_op, Prog.bind_ret, Prog.pure_eq_ret]
  refine load_k m ρ K c X 6 0 21 rfl ?_
  refine load_v m ρ K c X 6 0 21 rfl ?_
  refine load_k m ρ K c X 6 0 22 rfl ?_
  exact Comp.ret c _ _

theorem part42_run (X : sProp 𝕄) (v259 : IVec S128x128 1) (v266 : IVec S128x1 1) (v1454 : FVec F S128x256 .bf16) (v1507 : FVec F S128x64 .bf16) (v1509 : FVec F S128x64 .bf16) :
    Comp c (St m ρ K c X 6) (k0_part42 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1454 v1507 v1509)
    (⟨k0_pay127 v259 v266 v1507 v1509 (ldV m ρ c 0 22), k0_pay128 (ldV m ρ c 0 23), k0_pay129 v259 v1454 (ldK m ρ c 0 23), k0_pay130 v259 v1454 (ldK m ρ c 0 23)⟩) (St m ρ K c X 6) := by
  rw [k0_part42_eq_skeleton]; unfold k0_part42_skel
  simp only [Prog.lift, Prog.bind_op, Prog.bind_ret, Prog.pure_eq_ret]
  refine load_v m ρ K c X 6 0 22 rfl ?_
  refine load_k m ρ K c X 6 0 23 rfl ?_
  refine load_v m ρ K c X 6 0 23 rfl ?_
  exact Comp.ret c _ _

theorem part43_run (X : sProp 𝕄) (v259 : IVec S128x128 1) (v266 : IVec S128x1 1) (v268 : FVec F S2x128x512 .bf16) (v1329 : FVec F S128x512 .f32) (v1480 : FVec F S128x64 .f32) (v1506 : FVec F S128x64 .f32) (v1532 : FVec F S128x64 .f32) (v1537 : FVec F S128x64 .bf16) (v1548 : FVec F S128x128 .f32) (v1549 : FVec F S128 .f32) :
    Comp c (St m ρ K c X 6) (k0_part43 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v1329 v1480 v1506 v1532 v1537 v1548 v1549)
    (⟨k0_pay131 v266 v1329 v1480 v1506 v1532 v1537 v1548 v1549 (ldO m ρ 5), k0_pay132 v268 (ldQ m ρ 5), k0_pay133 (ldV m ρ c 1 20), k0_pay134 v259 v268 (ldQ m ρ 5) (ldK m ρ c 1 20)⟩) (St m ρ K c X 6) := by
  rw [k0_part43_eq_skeleton]; unfold k0_part43_skel
  simp only [Prog.lift, Prog.bind_op, Prog.bind_ret, Prog.pure_eq_ret]
  refine load_o m ρ K c X 6 5 (by decide) rfl ?_
  refine load_q m ρ K c X 6 5 (by decide) rfl ?_
  refine load_k m ρ K c X 6 1 20 rfl ?_
  refine load_v m ρ K c X 6 1 20 rfl ?_
  exact Comp.ret c _ _

theorem part44_run (X : sProp 𝕄) (v259 : IVec S128x128 1) (v266 : IVec S128x1 1) (v1570 : FVec F S128x256 .bf16) (v1575 : FVec F S128x64 .bf16) (v1586 : FVec F S128x128 .f32) :
    Comp c (St m ρ K c X 6) (k0_part44 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1570 v1575 v1586)
    (⟨k0_pay135 v266 v1575 v1586, k0_pay136 v259 v266 v1570 (ldK m ρ c 1 21) (ldV m ρ c 1 21), k0_pay137 v1570, k0_pay138 (ldK m ρ c 1 22)⟩) (St m ρ K c X 6) := by
  rw [k0_part44_eq_skeleton]; unfold k0_part44_skel
  simp only [Prog.lift, Prog.bind_op, Prog.bind_ret, Prog.pure_eq_ret]
  refine load_k m ρ K c X 6 1 21 rfl ?_
  refine load_v m ρ K c X 6 1 21 rfl ?_
  refine load_k m ρ K c X 6 1 22 rfl ?_
  exact Comp.ret c _ _

theorem part45_run (X : sProp 𝕄) (v259 : IVec S128x128 1) (v266 : IVec S128x1 1) (v1570 : FVec F S128x256 .bf16) (v1623 : FVec F S128x64 .bf16) (v1625 : FVec F S128x64 .bf16) :
    Comp c (St m ρ K c X 6) (k0_part45 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1570 v1623 v1625)
    (⟨k0_pay139 v259 v266 v1623 v1625 (ldV m ρ c 1 22), k0_pay140 (ldV m ρ c 1 23), k0_pay141 v259 v1570 (ldK m ρ c 1 23), k0_pay142 v259 v1570 (ldK m ρ c 1 23)⟩) (St m ρ K c X 6) := by
  rw [k0_part45_eq_skeleton]; unfold k0_part45_skel
  simp only [Prog.lift, Prog.bind_op, Prog.bind_ret, Prog.pure_eq_ret]
  refine load_v m ρ K c X 6 1 22 rfl ?_
  refine load_k m ρ K c X 6 1 23 rfl ?_
  refine load_v m ρ K c X 6 1 23 rfl ?_
  exact Comp.ret c _ _

theorem part46_run (X : sProp 𝕄) (v266 : IVec S128x1 1) (v268 : FVec F S2x128x512 .bf16) (v1445 : FVec F S128x512 .f32) (v1596 : FVec F S128x64 .f32) (v1622 : FVec F S128x64 .f32) (v1648 : FVec F S128x64 .f32) (v1653 : FVec F S128x64 .bf16) (v1659 : FVec F S128x128 .f32) (v1662 : FVec F S128x128 .f32) :
    Comp c (St m ρ K c X 6) (k0_part46 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v266 v268 v1445 v1596 v1622 v1648 v1653 v1659 v1662)
    (⟨k0_pay143 v266 v1445 v1596 v1622 v1648 v1653 v1659 v1662 (ldO m ρ 5), k0_pay144 v268 (ldQ m ρ 6), k0_pay145 (ldV m ρ c 0 24), k0_pay146 v268 (ldQ m ρ 6) (ldK m ρ c 0 24)⟩) (St m ρ K c X 7) := by
  rw [k0_part46_eq_skeleton]; unfold k0_part46_skel
  simp only [Prog.lift, Prog.bind_op, Prog.bind_ret, Prog.pure_eq_ret]
  refine load_o m ρ K c X 6 5 (by decide) rfl ?_
  refine slot_wait m ρ K c X 6 (waits_iff c 6) rfl rfl (qSl_eq 6 rfl _) (oSl_eq 6 rfl _) ?_
  refine load_q m ρ K c X 7 6 (by decide) rfl ?_
  refine load_k m ρ K c X 7 0 24 rfl ?_
  refine load_v m ρ K c X 7 0 24 rfl ?_
  exact Comp.ret c _ _

theorem part47_run (X : sProp 𝕄) (v259 : IVec S128x128 1) (v266 : IVec S128x1 1) (v1689 : FVec F S128x256 .bf16) (v1694 : FVec F S128x64 .bf16) (v1698 : FVec F S128x128 .f32) :
    Comp c (St m ρ K c X 7) (k0_part47 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1689 v1694 v1698)
    (⟨k0_pay147 v259 v266 v1694 v1698, k0_pay148 (ldV m ρ c 0 25), k0_pay149 v259 v266 v1689 (ldK m ρ c 0 25)⟩) (St m ρ K c X 7) := by
  rw [k0_part47_eq_skeleton]; unfold k0_part47_skel
  simp only [Prog.lift, Prog.bind_op, Prog.bind_ret, Prog.pure_eq_ret]
  refine load_k m ρ K c X 7 0 25 rfl ?_
  refine load_v m ρ K c X 7 0 25 rfl ?_
  exact Comp.ret c _ _

theorem part48_run (X : sProp 𝕄) (v259 : IVec S128x128 1) (v266 : IVec S128x1 1) (v1689 : FVec F S128x256 .bf16) (v1720 : FVec F S128x64 .bf16) (v1739 : FVec F S128x128 .f32) :
    Comp c (St m ρ K c X 7) (k0_part48 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1689 v1720 v1739)
    (⟨k0_pay150 v1720 v1739, k0_pay151 v259 v266 v1689 (ldK m ρ c 0 26) (ldV m ρ c 0 26), k0_pay152 (ldV m ρ c 0 27), k0_pay153 v1689 (ldK m ρ c 0 27)⟩) (St m ρ K c X 7) := by
  rw [k0_part48_eq_skeleton]; unfold k0_part48_skel
  simp only [Prog.lift, Prog.bind_op, Prog.bind_ret, Prog.pure_eq_ret]
  refine load_k m ρ K c X 7 0 26 rfl ?_
  refine load_v m ρ K c X 7 0 26 rfl ?_
  refine load_k m ρ K c X 7 0 27 rfl ?_
  refine load_v m ρ K c X 7 0 27 rfl ?_
  exact Comp.ret c _ _

theorem part49_run (X : sProp 𝕄) (v259 : IVec S128x128 1) (v266 : IVec S128x1 1) (v268 : FVec F S2x128x512 .bf16) (v1564 : FVec F S128x512 .f32) (v1715 : FVec F S128x64 .f32) (v1741 : FVec F S128x64 .f32) (v1767 : FVec F S128x64 .f32) (v1772 : FVec F S128x64 .bf16) (v1774 : FVec F S128x128 .f32) :
    Comp c (St m ρ K c X 7) (k0_part49 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v1564 v1715 v1741 v1767 v1772 v1774)
    (⟨k0_pay154 v259 v266 v1564 v1715 v1741 v1767 v1772 v1774 (ldO m ρ 6), k0_pay155 v268 (ldQ m ρ 6), k0_pay156 v268 (ldQ m ρ 6), k0_pay157 (ldV m ρ c 1 24), k0_pay158 (ldK m ρ c 1 24), (constant S128x128 .f32 0x00000000#32 : FVec F S128x128 .f32)⟩) (St m ρ K c X 7) := by
  rw [k0_part49_eq_skeleton]; unfold k0_part49_skel
  simp only [Prog.lift, Prog.bind_op, Prog.bind_ret, Prog.pure_eq_ret]
  refine load_o m ρ K c X 7 6 (by decide) rfl ?_
  refine load_q m ρ K c X 7 6 (by decide) rfl ?_
  refine load_k m ρ K c X 7 1 24 rfl ?_
  refine load_v m ρ K c X 7 1 24 rfl ?_
  exact Comp.ret c _ _

theorem part50_run (X : sProp 𝕄) (v259 : IVec S128x128 1) (v266 : IVec S128x1 1) (v1805 : FVec F S128x256 .bf16) (v1806 : FVec F S128x64 .bf16) (v1810 : FVec F S128x64 .bf16) (v1811 : FVec F S64x128 .bf16) (cst_1055 : FVec F S128x128 .f32) :
    Comp c (St m ρ K c X 7) (k0_part50 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1805 v1806 v1810 v1811 cst_1055)
    (⟨k0_pay159 v259 v266 v1806 v1810 v1811 cst_1055, k0_pay160 (ldV m ρ c 1 25), k0_pay161 v259 v1805 (ldK m ρ c 1 25), (Scalar.ofBits .f32 0x00000000#32 : F .f32)⟩) (St m ρ K c X 7) := by
  rw [k0_part50_eq_skeleton]; unfold k0_part50_skel
  simp only [Prog.lift, Prog.bind_op, Prog.bind_ret, Prog.pure_eq_ret]
  refine load_k m ρ K c X 7 1 25 rfl ?_
  refine load_v m ρ K c X 7 1 25 rfl ?_
  exact Comp.ret c _ _

theorem part51_run (X : sProp 𝕄) (v259 : IVec S128x128 1) (v266 : IVec S128x1 1) (v1805 : FVec F S128x256 .bf16) (v1836 : FVec F S128x64 .bf16) (v1851 : FVec F S128x128 .f32) (cst_1075 : F .f32) :
    Comp c (St m ρ K c X 7) (k0_part51 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1805 v1836 v1851 cst_1075)
    (⟨k0_pay162 v266 v1836 v1851 cst_1075, k0_pay163 v259 v266 v1805 (ldK m ρ c 1 26) (ldV m ρ c 1 26), k0_pay164 v1805, k0_pay165 (ldK m ρ c 1 27), (ldV m ρ c 1 27)⟩) (St m ρ K c X 7) := by
  rw [k0_part51_eq_skeleton]; unfold k0_part51_skel
  simp only [Prog.lift, Prog.bind_op, Prog.bind_ret, Prog.pure_eq_ret]
  refine load_k m ρ K c X 7 1 26 rfl ?_
  refine load_v m ρ K c X 7 1 26 rfl ?_
  refine load_k m ρ K c X 7 1 27 rfl ?_
  refine load_v m ρ K c X 7 1 27 rfl ?_
  exact Comp.ret c _ _

theorem part52_run (X : sProp 𝕄) (v259 : IVec S128x128 1) (v266 : IVec S128x1 1) (v268 : FVec F S2x128x512 .bf16) (v1680 : FVec F S128x512 .f32) (v1831 : FVec F S128x64 .f32) (v1857 : FVec F S128x64 .f32) (v1883 : FVec F S128x64 .f32) (v1884 : FVec F S128x64 .bf16) (v1886 : FVec F S128x64 .bf16) (v1887 : Vec F S1x128x1x64 .bf16) :
    Comp c (St m ρ K c X 7) (k0_part52 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 (me c) v259 v266 v268 v1680 v1831 v1857 v1883 v1884 v1886 v1887)
    (⟨k0_pay166 v259 v266 v1680 v1831 v1857 v1883 v1884 v1886 v1887 (ldO m ρ 6), k0_pay167 v268 (ldQ m ρ 7), k0_pay168 v268 (ldQ m ρ 7)⟩) (St m ρ K c X 8) := by
  rw [k0_part52_eq_skeleton]; unfold k0_part52_skel
  simp only [Prog.lift, Prog.bind_op, Prog.bind_ret, Prog.pure_eq_ret]
  refine load_o m ρ K c X 7 6 (by decide) rfl ?_
  refine slot_wait m ρ K c X 7 (waits_iff c 7) rfl rfl (qSl_eq 7 rfl _) (oSl_eq 7 rfl _) ?_
  refine load_q m ρ K c X 8 7 (by decide) rfl ?_
  exact Comp.ret c _ _

theorem part53_run (X : sProp 𝕄) (v259 : IVec S128x128 1) (v266 : IVec S128x1 1) (v1924 : FVec F S128x256 .bf16) (v1925 : FVec F S128x64 .bf16) :
    Comp c (St m ρ K c X 8) (k0_part53 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1924 v1925)
    (⟨k0_pay169 v259 v266 v1925 (ldK m ρ c 0 28) (ldV m ρ c 0 28), k0_pay170 (ldV m ρ c 0 29), k0_pay171 v259 v1924 (ldK m ρ c 0 29), k0_pay172 v259 v1924 (ldK m ρ c 0 29)⟩) (St m ρ K c X 8) := by
  rw [k0_part53_eq_skeleton]; unfold k0_part53_skel
  simp only [Prog.lift, Prog.bind_op, Prog.bind_ret, Prog.pure_eq_ret]
  refine load_k m ρ K c X 8 0 28 rfl ?_
  refine load_v m ρ K c X 8 0 28 rfl ?_
  refine load_k m ρ K c X 8 0 29 rfl ?_
  refine load_v m ρ K c X 8 0 29 rfl ?_
  exact Comp.ret c _ _

theorem part54_run (X : sProp 𝕄) (v259 : IVec S128x128 1) (v266 : IVec S128x1 1) (v1924 : FVec F S128x256 .bf16) (v1955 : FVec F S128x64 .bf16) (v1961 : FVec F S128x128 .f32) (v1962 : FVec F S128 .f32) :
    Comp c (St m ρ K c X 8) (k0_part54 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1924 v1955 v1961 v1962)
    (⟨k0_pay173 v266 v1955 v1961 v1962, k0_pay174 v259 v266 v1924 (ldK m ρ c 0 30) (ldV m ρ c 0 30), k0_pay175 v1924⟩) (St m ρ K c X 8) := by
  rw [k0_part54_eq_skeleton]; unfold k0_part54_skel
  simp only [Prog.lift, Prog.bind_op, Prog.bind_ret, Prog.pure_eq_ret]
  refine load_k m ρ K c X 8 0 30 rfl ?_
  refine load_v m ρ K c X 8 0 30 rfl ?_
  exact Comp.ret c _ _

theorem part55_run (X : sProp 𝕄) (v259 : IVec S128x128 1) (v266 : IVec S128x1 1) (v268 : FVec F S2x128x512 .bf16) (v1799 : FVec F S128x512 .f32) (v1950 : FVec F S128x64 .f32) (v1976 : FVec F S128x64 .f32) (v2002 : FVec F S128x64 .f32) (v2003 : FVec F S128x64 .bf16) :
    Comp c (St m ρ K c X 8) (k0_part55 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v268 v1799 v1950 v1976 v2002 v2003)
    (⟨k0_pay176 v259 v266 v1799 v1950 v1976 v2002 v2003 (ldK m ρ c 0 31) (ldV m ρ c 0 31) (ldO m ρ 7), k0_pay177 v268 (ldQ m ρ 7), k0_pay178 v268 (ldQ m ρ 7)⟩) (St m ρ K c X 8) := by
  rw [k0_part55_eq_skeleton]; unfold k0_part55_skel
  simp only [Prog.lift, Prog.bind_op, Prog.bind_ret, Prog.pure_eq_ret]
  refine load_k m ρ K c X 8 0 31 rfl ?_
  refine load_v m ρ K c X 8 0 31 rfl ?_
  refine load_o m ρ K c X 8 7 (by decide) rfl ?_
  refine load_q m ρ K c X 8 7 (by decide) rfl ?_
  exact Comp.ret c _ _

theorem part56_run (X : sProp 𝕄) (v259 : IVec S128x128 1) (v266 : IVec S128x1 1) (v2040 : FVec F S128x256 .bf16) (v2041 : FVec F S128x64 .bf16) :
    Comp c (St m ρ K c X 8) (k0_part56 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v2040 v2041)
    (⟨k0_pay179 v259 v266 v2041 (ldK m ρ c 1 28) (ldV m ρ c 1 28), k0_pay180 (ldV m ρ c 1 29), k0_pay181 v2040 (ldK m ρ c 1 29), (Scalar.ofBits .f32 0xCE6E6B28#32 : F .f32)⟩) (St m ρ K c X 8) := by
  rw [k0_part56_eq_skeleton]; unfold k0_part56_skel
  simp only [Prog.lift, Prog.bind_op, Prog.bind_ret, Prog.pure_eq_ret]
  refine load_k m ρ K c X 8 1 28 rfl ?_
  refine load_v m ρ K c X 8 1 28 rfl ?_
  refine load_k m ρ K c X 8 1 29 rfl ?_
  refine load_v m ρ K c X 8 1 29 rfl ?_
  exact Comp.ret c _ _

theorem part57_run (X : sProp 𝕄) (v259 : IVec S128x128 1) (v266 : IVec S128x1 1) (v2040 : FVec F S128x256 .bf16) (v2071 : FVec F S128x64 .bf16) (v2075 : FVec F S128x128 .f32) (cst_1206 : F .f32) :
    Comp c (St m ρ K c X 8) (k0_part57 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v2040 v2071 v2075 cst_1206)
    (⟨k0_pay182 v259 v266 v2071 v2075 cst_1206, k0_pay183 (ldV m ρ c 1 30), k0_pay184 v259 v266 v2040 (ldK m ρ c 1 30)⟩) (St m ρ K c X 8) := by
  rw [k0_part57_eq_skeleton]; unfold k0_part57_skel
  simp only [Prog.lift, Prog.bind_op, Prog.bind_ret, Prog.pure_eq_ret]
  refine load_k m ρ K c X 8 1 30 rfl ?_
  refine load_v m ρ K c X 8 1 30 rfl ?_
  exact Comp.ret c _ _

end Parts

end Cert.KernelIdeal.Gather

end
-- ==== Proof.Value.lean ====
/-
What a device computes from the gathered blocks.
-/
module

public import proofs.«01_k».proof.Proof.Rules

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The computation of one device, in the printed operations -/

/-- Which keys a row of device `c` attends to, and whether it attends to any. -/
def maskC (c : Dev nD) : IVec S128x128 1 := k0_pay5 (iota .tc S128x128 32 [1] iota_S128x128_d1_w32) k0_pay3 (k0_pay4 (me c))
def keepC (c : Dev nD) : IVec S128x1 1 := k0_pay6 (F := F) (iota .tc S128x128 32 [1] iota_S128x128_d1_w32) k0_pay3 (k0_pay4 (me c))

/-- The attention of one head: queries `q`, keys `kh`, values `vh`. -/
def headC (mk : IVec S128x128 1) (kp : IVec S128x1 1) (q : FVec F S128x64 .bf16) (kh vh : Vec F S1x128x1x64 .bf16) : FVec F S128x64 .f32 :=
  let sc : FVec F S128x128 .f32 := matmul dot_S128x64_S64x128_S128x128_1_0_0_1_n_n none q
    (transpose S64x128 [1, 0] (shapeCast S128x64 kh shapeCasts_S1x128x1x64_S128x64) transposes_S128x64_p1_0_S64x128) (constant S128x128 .f32 0x00000000#32)
  let s : FVec F S128x128 .f32 := select mk (mulf sc (broadcast S128x128 (Scalar.ofBits .f32 0x3E000000#32))) (broadcast S128x128 (Scalar.ofBits .f32 0xCE6E6B28#32))
  let mx : FVec F S128 .f32 := multiReduction .maximumf [1] S128 s 0xFF800000#32 reduces_S128x128_S128 (.inl rfl) rfl
  let e : FVec F S128x128 .f32 := exp (subf s (broadcastTo S128x128 (shapeCast S128x1 mx shapeCasts_S128_S128x1) broadcasts_S128x1_S128x128))
  let sm : FVec F S128 .f32 := multiReduction .add [1] S128 e 0x00000000#32 reduces_S128x128_S128 (.inl rfl) rfl
  let w : FVec F S128x128 .f32 := divf e (broadcastTo S128x128 (shapeCast S128x1 sm shapeCasts_S128_S128x1) broadcasts_S128x1_S128x128)
  let w' : FVec F S128x128 .f32 := select (broadcastTo S128x128 (shapeCast S128x1 kp shapeCasts_S128x1_S128x1) broadcasts_S128x1_S128x128) w (broadcast S128x128 (Scalar.ofBits .f32 0x00000000#32))
  matmul dot_S128x128_S128x64_S128x64_1_0_0_1_n_n none (truncf .bf16 w' bitsLt_bf16_f32) (shapeCast S128x64 vh shapeCasts_S1x128x1x64_S128x64) (constant S128x64 .f32 0x00000000#32)

/-- The rows of batch `b`. -/
def rowsC (x : Vec F S2x128x512 .bf16) (b : Fin 2) : FVec F S1x128x512 .bf16 :=
  match b with
  | 0 => extractStridedSlice S1x128x512 ![0, 0, 0] (k0_pay7 x) slices_S2x128x512_o0_0_0_S1x128x512
  | 1 => extractStridedSlice S1x128x512 ![1, 0, 0] (k0_pay7 x) slices_S2x128x512_o1_0_0_S1x128x512
/-- The queries of the four heads of one slot. -/
def queriesC (r : FVec F S1x128x512 .bf16) (wq : Vec F S1x512x256 .bf16) : FVec F S128x256 .bf16 :=
  truncf .bf16 (matmul dot_S128x512_S512x256_S128x256_1_0_0_1_n_n none (shapeCast S128x512 r shapeCasts_S1x128x512_S128x512)
    (shapeCast S512x256 wq shapeCasts_S1x512x256_S512x256) (constant S128x256 .f32 0x00000000#32)) bitsLt_bf16_f32
/-- The four heads of one slot through the slot's rows of `wo`, added to `acc`. -/
def stepC (mk : IVec S128x128 1) (kp : IVec S128x1 1) (r : FVec F S1x128x512 .bf16) (wq : Vec F S1x512x256 .bf16) (wo : Vec F S1x256x512 .bf16)
    (k v : Fin 4 → Vec F S1x128x1x64 .bf16) (acc : FVec F S128x512 .f32) : FVec F S128x512 .f32 :=
  let q := queriesC r wq
  let cx : FVec F S128x256 .f32 := concatenate S128x256 1
    [⟨S128x64, headC mk kp (extractStridedSlice S128x64 ![0, 0] q slices_S128x256_o0_0_S128x64) (k 0) (v 0)⟩,
     ⟨S128x64, headC mk kp (extractStridedSlice S128x64 ![0, 64] q slices_S128x256_o0_64_S128x64) (k 1) (v 1)⟩,
     ⟨S128x64, headC mk kp (extractStridedSlice S128x64 ![0, 128] q slices_S128x256_o0_128_S128x64) (k 2) (v 2)⟩,
     ⟨S128x64, headC mk kp (extractStridedSlice S128x64 ![0, 192] q slices_S128x256_o0_192_S128x64) (k 3) (v 3)⟩]
    concatenates_S128x64_S128x64_S128x64_S128x64_S128x256_d1
  addf acc (matmul dot_S128x256_S256x512_S128x512_1_0_0_1_n_n none (truncf .bf16 cx bitsLt_bf16_f32)
    (shapeCast S256x512 wo shapeCasts_S1x256x512_S256x512) (constant S128x512 .f32 0x00000000#32))

/-- Head `t` of slot `j`. -/
def headOf (j : Fin 8) (t : Fin 4) : Fin 32 := ⟨4 * j.val + t.val, by have := j.isLt; have := t.isLt; omega⟩
/-- Slot `j`'s step on device `c`, batch `b`. -/
def stepD (c : Dev nD) (b : Fin 2) (j : Fin 8) (acc : FVec F S128x512 .f32) : FVec F S128x512 .f32 :=
  stepC (maskC c) (keepC (F := F) c) (rowsC (xB m ρ c) b) (ldQ m ρ j) (ldO m ρ j) (fun t => ldK m ρ c b (headOf j t)) (fun t => ldV m ρ c b (headOf j t)) acc
/-- What is summed once the slots up to `j` are in. -/
def accD (c : Dev nD) (b : Fin 2) : (n : ℕ) → n ≤ 8 → FVec F S128x512 .f32
  | 0, _ => broadcast S128x512 (Scalar.ofBits .f32 0x00000000#32)
  | n + 1, h => stepD m ρ c b ⟨n, h⟩ (accD c b n (Nat.le_of_succ_le h))

/-- The result of device `c`. -/
def outC (a₀ a₁ : FVec F S128x512 .f32) : S2x128x512.Idx → Elt F .f32 := fun i =>
  if (i 0).val = 0 then k0_pay186 a₀ (fun | 0 => (0 : Fin 1) | 1 => i 1 | 2 => i 2) else k0_pay187 a₁ (fun | 0 => (0 : Fin 1) | 1 => i 1 | 2 => i 2)
def outB (c : Dev nD) : S2x128x512.Idx → Elt F .f32 := outC (accD m ρ c 0 8 le_rfl) (accD m ρ c 1 8 le_rfl)

end Cert.KernelIdeal.Gather

end
-- ==== Proof.Tail.lean ====
/-
The last parts of the body: the result's stores and the waits for the copies made.
-/
module

public import proofs.«01_k».proof.Proof.Value

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The result's stores -/

section Tail

variable (K : Dev nD × Role → ℕ) (c : Dev nD)

abbrev oW : Memref sig .tc .vmem S2x128x512 .f32 := Memref.whole cc0_stg5_0

theorem Comp.frame {α : Type} {R R' : sProp 𝕄} (X : sProp 𝕄) {p : Prog (TpuEff nD τ sig (Elt F) Λ₀ .tc) α} {v : α} (h : Comp c R p v R') :
    Comp c iprop(R ∗ X) p v iprop(R' ∗ X) := by
  intro Q
  iintro ⟨HR, HX⟩ Hk
  iapply (h Q) $$ HR
  iintro HR
  iapply Hk
  isplitl [HR]; · iexact HR
  iexact HX

/-- A load of the result's copy, whatever it holds. -/
theorem load_out {R R' : sProp 𝕄} {r : LoadRect S2x128x512} {hl : oW.view.LoadsAt r} {α : Type} (f : S2x128x512.Idx → Elt F .f32)
    {k : (r.shape.Idx → Elt F .f32) → Prog (TpuEff nD τ sig (Elt F) Λ₀ .tc) α} {v : α}
    (h : Comp c iprop(stgHold c cc0_stg5_0 f ∗ R) (k (oW.view.readAt (Elt F) r f)) v R') :
    Comp c iprop(stgHold c cc0_stg5_0 f ∗ R) (.op (.load oW r hl) k) v R' := by
  refine Comp.load c Finset.univ fullShare f (Finset.subset_univ _) ?_ h
  iintro ⟨H, HR⟩
  isplitl [H]; · iexact H
  iintro H
  isplitl [H]; · iexact H
  iexact HR
/-- A store to the result's copy. -/
theorem store_out {R R' : sProp 𝕄} {r : Rect S2x128x512} {w : r.shape.Idx → Elt F .f32} {hx : (oW.access r).Stores Finset.univ} {hm} {α : Type}
    (f : S2x128x512.Idx → Elt F .f32) {k : PUnit → Prog (TpuEff nD τ sig (Elt F) Λ₀ .tc) α} {v : α}
    (h : Comp c iprop(stgHold c cc0_stg5_0 ((oW.access r).write (Elt F) f w Finset.univ) ∗ R) (k ⟨⟩) v R') :
    Comp c iprop(stgHold c cc0_stg5_0 f ∗ R) (.op (.store oW r w Finset.univ hx hm) k) v R' := by
  intro Q
  iintro ⟨H, HR⟩ Hk
  iapply (wp_store 𝒱₀ (c : Thread nD τ) none Set.univ (m := oW) (r := r) (w := w) (Mk := Finset.univ) (hx := hx) (hm := hm) (f := f) (Finset.subset_univ _)) $$ [H]
  · iexact H
  iintro H
  iapply (h Q) $$ [H HR]
  · isplitl [H]; · iexact H
    iexact HR
  iexact Hk

/-- The two stores leave the result. -/
theorem out_stored (g : S2x128x512.Idx → Elt F .f32) (a₀ a₁ : FVec F S128x512 .f32) {h₀ h₁} :
    (oW.access (Rect.unit (s := S2x128x512) ![1, 0, 0] S1x128x512.size h₁)).write (Elt F)
      ((oW.access (Rect.unit (s := S2x128x512) ![0, 0, 0] S1x128x512.size h₀)).write (Elt F) g (k0_pay186 a₀) Finset.univ) (k0_pay187 a₁) Finset.univ
      = outC a₀ a₁ := by
  funext i
  have h0 := (show (i 0).val < 2 from (i 0).isLt)
  have key : ∀ (n : ℕ) (hn : ∀ a, (![n, 0, 0] : Fin 3 → ℕ) a + S1x128x512.size a ≤ S2x128x512.size a), (i 0).val = n →
      ((oW.access (Rect.unit (s := S2x128x512) ![n, 0, 0] S1x128x512.size hn)).emb
        ((fun | 0 => (0 : Fin 1) | 1 => i 1 | 2 => i 2) : S1x128x512.Idx) : S2x128x512.Idx) = i := by
    intro n hn hi
    funext a; apply Fin.ext
    fin_cases a
    · show n + 1 * 0 = (i 0).val; omega
    · show 0 + 1 * (i 1).val = (i 1).val; omega
    · show 0 + 1 * (i 2).val = (i 2).val; omega
  by_cases hi : (i 0).val = 0
  · have hnot : i ∉ (oW.access (Rect.unit (s := S2x128x512) ![1, 0, 0] S1x128x512.size h₁)).setOn Finset.univ := by
      intro hm
      obtain ⟨x, -, hx⟩ := Finset.mem_map.mp hm
      have : (i 0).val = 1 + 1 * (x 0).val := (congrArg (fun u : S2x128x512.Idx => (u 0).val) hx).symm
      omega
    rw [View.write_of_not_mem _ _ _ hnot]
    refine (congrArg _ (key 0 h₀ hi).symm).trans ?_
    refine (View.write_emb_of_mem (v := oW.access (Rect.unit (s := S2x128x512) ![0, 0, 0] S1x128x512.size h₀)) g _ (Finset.mem_univ _)).trans ?_
    unfold outC; rw [if_pos hi]; rfl
  · refine (congrArg _ (key 1 h₁ (by omega)).symm).trans ?_
    refine (View.write_emb_of_mem (v := oW.access (Rect.unit (s := S2x128x512) ![1, 0, 0] S1x128x512.size h₁)) _ _ (Finset.mem_univ _)).trans ?_
    unfold outC; rw [if_neg hi]; rfl

/-! ## The waits for the copies made -/

/-- The waits for the sends, the first `a` of the first block and `b` of the second done. -/
abbrev backs (X : sProp 𝕄) (a b : ℕ) : sProp 𝕄 := iprop(ctx m ρ K ∗ owesX c 0 ∗ backP m ρ false c a ∗ backP m ρ true c b ∗ X)

theorem back_q (X : sProp 𝕄) (s : Fin 7) (b : ℕ) {s₁ : DmaSem sig} (hs : SemLoc.dma s₁ = csem (some (false, .inl s)))
    {M M' : Memref sig .tc .vmem S512x256 .bf16} (hM : M = qSl c) {e : M'.view.WordExact} {e' : M.view.WordExact}
    {α : Type} {R' : sProp 𝕄} {v : α} {k : PUnit → Prog (TpuEff nD τ sig (Elt F) Λ₀ .tc) α} (hk : Comp c (backs m ρ K c X (s.val + 1) b) (k ⟨⟩) v R') :
    Comp c (backs m ρ K c X s.val b) (.op (.waitDma2 s₁ M' M e e') k) v R' := by
  intro Q
  iintro ⟨#Hc, HO, HA, HB, HX⟩ Hk
  iapply (back_wait m ρ K c false s _ (fun P => (wpE_waitDma2_eq ..).trans (by rw [hs, hM]; rfl))) $$ [HO HA]
  · isplitr; · iexact Hc
    isplitl [HO]; · iexact HO
    iexact HA
  iintro ⟨HO, HA⟩
  iapply (hk Q) $$ [HO HA HB HX]
  · isplitr; · iexact Hc
    isplitl [HO]; · iexact HO
    isplitl [HA]; · iexact HA
    isplitl [HB]; · iexact HB
    iexact HX
  iexact Hk
theorem back_o (X : sProp 𝕄) (s : Fin 7) (a : ℕ) {s₁ : DmaSem sig} (hs : SemLoc.dma s₁ = csem (some (true, .inl s)))
    {M M' : Memref sig .tc .vmem S256x512 .bf16} (hM : M = oSl c) {e : M'.view.WordExact} {e' : M.view.WordExact}
    {α : Type} {R' : sProp 𝕄} {v : α} {k : PUnit → Prog (TpuEff nD τ sig (Elt F) Λ₀ .tc) α} (hk : Comp c (backs m ρ K c X a (s.val + 1)) (k ⟨⟩) v R') :
    Comp c (backs m ρ K c X a s.val) (.op (.waitDma2 s₁ M' M e e') k) v R' := by
  intro Q
  iintro ⟨#Hc, HO, HA, HB, HX⟩ Hk
  iapply (back_wait m ρ K c true s _ (fun P => (wpE_waitDma2_eq ..).trans (by rw [hs, hM]; rfl))) $$ [HO HB]
  · isplitr; · iexact Hc
    isplitl [HO]; · iexact HO
    iexact HB
  iintro ⟨HO, HB⟩
  iapply (hk Q) $$ [HO HA HB HX]
  · isplitr; · iexact Hc
    isplitl [HO]; · iexact HO
    isplitl [HA]; · iexact HA
    isplitl [HB]; · iexact HB
    iexact HX
  iexact Hk

/-! ## The last parts -/

theorem part58_run (Y : sProp 𝕄) (g : S2x128x512.Idx → Elt F .f32) (v259 : IVec S128x128 1) (v266 : IVec S128x1 1) (v1915 : FVec F S128x512 .f32) (v2034 : FVec F S128x512 .f32) (v2040 : FVec F S128x256 .bf16) (v2066 : FVec F S128x64 .f32) (v2092 : FVec F S128x64 .f32) (v2097 : FVec F S128x64 .bf16) (v2117 : FVec F S128x128 .bf16) :
    Comp c (St m ρ K c iprop(stgHold c cc0_stg5_0 g ∗ Y) 8) (k0_part58 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 v259 v266 v1915 v2034 v2040 v2066 v2092 v2097 v2117)
    (k0_pay185 v259 v266 v1915 v2040 v2066 v2092 v2097 v2117 (ldK m ρ c 1 31) (ldV m ρ c 1 31) (ldO m ρ 7))
    iprop(stgHold c cc0_stg5_0 ((oW.access (Rect.unit (s := S2x128x512) ![0, 0, 0] S1x128x512.size inb_S2x128x512_S1x128x512_0_0_0)).write (Elt F) g (k0_pay186 v2034) Finset.univ)
      ∗ St m ρ K c Y 8) := by
  rw [k0_part58_eq_skeleton]; unfold k0_part58_skel
  simp only [Prog.lift, Prog.bind_op, Prog.bind_ret, Prog.pure_eq_ret]
  refine load_k m ρ K c _ 8 1 31 rfl ?_
  refine load_v m ρ K c _ 8 1 31 rfl ?_
  refine load_o m ρ K c _ 8 7 (by decide) rfl ?_
  refine Comp.conseq c (R₁ := iprop(stgHold c cc0_stg5_0 g ∗ St m ρ K c Y 8)) ?_ ?_
  · unfold St
    iintro ⟨#Hc, HO, HA, HB, HX, HK, HV, HG, HY⟩
    isplitl [HG]; · iexact HG
    isplitr; · iexact Hc
    isplitl [HO]; · iexact HO
    isplitl [HA]; · iexact HA
    isplitl [HB]; · iexact HB
    isplitl [HX]; · iexact HX
    isplitl [HK]; · iexact HK
    isplitl [HV]; · iexact HV
    iexact HY
  refine load_out c g ?_
  refine store_out c g ?_
  exact Comp.ret c _ _

theorem part60_run (X : sProp 𝕄) : Comp c (backs m ρ K c X 2 2) (k0_part60 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 c) ⟨⟩ (backs m ρ K c X 4 4) := by
  rw [k0_part60_eq_skeleton]; unfold k0_part60_skel
  simp only [Prog.lift, Prog.bind_op, Prog.bind_ret, Prog.pure_eq_ret]
  refine back_q m ρ K c X 2 2 rfl (qSl_eq c (k0_off4_eq c) _) ?_
  refine back_o m ρ K c X 2 3 rfl (oSl_eq c (k0_off5_eq c) _) ?_
  refine back_q m ρ K c X 3 3 rfl (qSl_eq c (k0_off4_eq c) _) ?_
  refine back_o m ρ K c X 3 4 rfl (oSl_eq c (k0_off5_eq c) _) ?_
  exact Comp.ret c _ _

theorem part61_run (X : sProp 𝕄) : Comp c (backs m ρ K c X 4 4) (k0_part61 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 c) ⟨⟩ (backs m ρ K c X 7 6) := by
  rw [k0_part61_eq_skeleton]; unfold k0_part61_skel
  simp only [Prog.lift, Prog.bind_op, Prog.bind_ret, Prog.pure_eq_ret]
  refine back_q m ρ K c X 4 4 rfl (qSl_eq c (k0_off4_eq c) _) ?_
  refine back_o m ρ K c X 4 5 rfl (oSl_eq c (k0_off5_eq c) _) ?_
  refine back_q m ρ K c X 5 5 rfl (qSl_eq c (k0_off4_eq c) _) ?_
  refine back_o m ρ K c X 5 6 rfl (oSl_eq c (k0_off5_eq c) _) ?_
  refine back_q m ρ K c X 6 6 rfl (qSl_eq c (k0_off4_eq c) _) ?_
  exact Comp.ret c _ _

theorem part59_run (Y : sProp 𝕄) (f : S2x128x512.Idx → Elt F .f32) (v2150 : FVec F S128x512 .f32) :
    Comp c iprop(stgHold c cc0_stg5_0 f ∗ backs m ρ K c Y 0 0) (k0_part59 (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5 c v2150) ⟨⟩
    (backs m ρ K c iprop(stgHold c cc0_stg5_0 ((oW.access (Rect.unit (s := S2x128x512) ![1, 0, 0] S1x128x512.size inb_S2x128x512_S1x128x512_1_0_0)).write (Elt F) f (k0_pay187 v2150) Finset.univ) ∗ Y) 2 2) := by
  rw [k0_part59_eq_skeleton]; unfold k0_part59_skel
  simp only [Prog.lift, Prog.bind_op, Prog.bind_ret, Prog.pure_eq_ret]
  refine load_out c f ?_
  refine store_out c f ?_
  refine Comp.conseq c (R₁ := backs m ρ K c iprop(stgHold c cc0_stg5_0 ((oW.access (Rect.unit (s := S2x128x512) ![1, 0, 0] S1x128x512.size inb_S2x128x512_S1x128x512_1_0_0)).write (Elt F) f (k0_pay187 v2150) Finset.univ) ∗ Y) 0 0) ?_ ?_
  · iintro ⟨HG, #Hc, HO, HA, HB, HY⟩
    isplitr; · iexact Hc
    isplitl [HO]; · iexact HO
    isplitl [HA]; · iexact HA
    isplitl [HB]; · iexact HB
    isplitl [HG]; · iexact HG
    iexact HY
  refine back_q m ρ K c _ 0 0 rfl (qSl_eq c (k0_off4_eq c) _) ?_
  refine back_o m ρ K c _ 0 1 rfl (oSl_eq c (k0_off5_eq c) _) ?_
  refine back_q m ρ K c _ 1 1 rfl (qSl_eq c (k0_off4_eq c) _) ?_
  refine back_o m ρ K c _ 1 2 rfl (oSl_eq c (k0_off5_eq c) _) ?_
  exact Comp.ret c _ _

end Tail

end Cert.KernelIdeal.Gather

end
-- ==== Proof.Body.lean ====
/-
The body on one device, its parts put together.
-/
module

public import proofs.«01_k».proof.Proof.Mid
public import proofs.«01_k».proof.Proof.Tail

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The body, from its start to its end -/

section Body

variable (K : Dev nD × Role → ℕ) (c : Dev nD)

/-- The tokens of one buffer's copies, the positions at its send cells, and those at its receive cells with the credits. -/
def sendToks (b : Bool) : sProp 𝕄 :=
  bigSep Finset.univ fun s : Fin 7 => iprop(dutyTok ER (sendCell b c s) 0 0 ∗ dutyTok ER (recvCell b (peer s c) c) 0 0)
def sendAts (b : Bool) : sProp 𝕄 := bigSep Finset.univ fun s : Fin 7 => atPos ER (sendCell b c s) 0 ∅ 0
def recvAts (b : Bool) : sProp 𝕄 :=
  bigSep Finset.univ fun j : Fin 8 => iprop(atPos ER (recvCell b c j) 0 ∅ 0 ∗ if j = c then iprop(emp) else cred (tallyAt (recvCell b c j) () (N b)))

/-- What the first two parts leave alone. -/
abbrev Rest (g : S2x128x512.Idx → Elt F .f32) : sProp 𝕄 :=
  iprop((sendToks c false ∗ sendToks c true) ∗ (sendAts c false ∗ sendAts c true) ∗ (recvAts c false ∗ recvAts c true)
    ∗ (stgHold c cc0_stg0_0 (xB m ρ c) ∗ stgHold c cc0_stg2_0 (kB m ρ c) ∗ stgHold c cc0_stg3_0 (vB m ρ c)) ∗ stgHold c cc0_stg5_0 g)

/-- Where the body starts. -/
def Start (g : S2x128x512.Idx → Elt F .f32) : sProp 𝕄 :=
  iprop(ctx m ρ K ∗ owesX c (owedB c 7) ∗ sigP c 0 ∗ (atPos ER (barCell c) 0 ∅ 0 ∗ cred (tallyAt (barCell c) () 7))
    ∗ (stgHold c cc0_stg1_0 (qB m ρ c) ∗ stgHold c cc0_stg4_0 (oB m ρ c)) ∗ (slotE false c c ∗ slotE true c c) ∗ Rest m ρ c g)

/-- What stays aside once the copies are made. -/
abbrev Kept (g : S2x128x512.Idx → Elt F .f32) : sProp 𝕄 :=
  iprop((semVal (barCell c) 0 ∗ stgHold c cc0_stg1_0 (qB m ρ c) ∗ stgHold c cc0_stg4_0 (oB m ρ c))
    ∗ (slotP m ρ false c c kept ∗ slotP m ρ true c c kept) ∗ (sendAts c false ∗ sendAts c true) ∗ (recvAts c false ∗ recvAts c true)
    ∗ (stgHold c cc0_stg0_0 (xB m ρ c) ∗ stgHold c cc0_stg2_0 (kB m ρ c) ∗ stgHold c cc0_stg3_0 (vB m ρ c)) ∗ stgHold c cc0_stg5_0 g)

/-- What stays aside in the middle. -/
abbrev Aside : sProp 𝕄 :=
  iprop((backP m ρ false c 0 ∗ backP m ρ true c 0) ∗ semVal (barCell c) 0 ∗ stgHold c cc0_stg1_0 (qB m ρ c) ∗ stgHold c cc0_stg4_0 (oB m ρ c))

/-- What the waits for the copies leave alone. -/
abbrev Done (b : S2x128x512.Idx → Elt F .f32) : sProp 𝕄 :=
  iprop(stgHold c cc0_stg5_0 b ∗ (semVal (barCell c) 0 ∗ stgHold c cc0_stg1_0 (qB m ρ c) ∗ stgHold c cc0_stg4_0 (oB m ρ c))
    ∗ (recvP m ρ false c 8 ∗ recvP m ρ true c 8)
    ∗ stgHold c cc0_stg0_0 (xB m ρ c) ∗ stgHold c cc0_stg2_0 (kB m ρ c) ∗ stgHold c cc0_stg3_0 (vB m ρ c))

theorem sends_ready (b : Bool) : iprop(sendToks c b ∗ (bigSep Finset.univ fun s : Fin 7 => slotE b (peer s c) c) ∗ bigSep Finset.univ fun s : Fin 7 => slotP m ρ b c c (lent s))
    ⊢ sendP m ρ b c 0 := by
  unfold sendToks sendP
  rw [prog_zero, ← bigSep_sep', ← bigSep_sep']
theorem backs_ready (b : Bool) : iprop(sendP m ρ b c 7 ∗ sendAts c b) ⊢ backP m ρ b c 0 := by
  unfold sendP backP sendAts
  rw [prog_all, prog_zero]
  iintro ⟨H1, H2⟩
  iapply (Entails.of_eq (bigSep_sep' Finset.univ (fun s : Fin 7 => (atPos ER (sendCell b c s) 0 ∅ 0 : sProp 𝕄)) (fun s => cred (tallyAt (sendCell b c s) () (N b)))).symm)
  isplitl [H2]; · iexact H2
  iexact H1
theorem recvs_rest (b : Bool) :
    (bigSep (Finset.univ.erase c) fun j : Fin 8 => iprop(atPos ER (recvCell b c j) 0 ∅ 0 ∗ if j = c then iprop(emp) else cred (tallyAt (recvCell b c j) () (N b))) : sProp 𝕄)
      ⊢ bigSep (Finset.univ.erase c) fun j : Fin 8 => iprop(atPos ER (recvCell b c j) 0 ∅ 0 ∗ if j = c then slotP m ρ b c c kept else cred (tallyAt (recvCell b c j) () (N b))) :=
  Entails.of_eq (bigSep_congr fun j hj => by rw [if_neg (Finset.ne_of_mem_erase hj), if_neg (Finset.ne_of_mem_erase hj)])
theorem recvs_ready (b : Bool) : iprop(slotP m ρ b c c kept ∗ recvAts c b) ⊢ recvP m ρ b c 0 := by
  unfold recvP recvAts
  rw [prog_zero, bigSep_take c, bigSep_take c (fun j : Fin 8 => iprop(atPos ER (recvCell b c j) 0 ∅ 0 ∗ if j = c then slotP m ρ b c c kept else cred (tallyAt (recvCell b c j) () (N b)))),
    if_pos rfl, if_pos rfl]
  iintro ⟨HS, ⟨Hat, -⟩, HR⟩
  isplitl [HS Hat]
  · isplitl [Hat]; · iexact Hat
    iexact HS
  · iapply (recvs_rest m ρ c b)
    iexact HR
theorem barPay_slots (p : Dev nD) : (barPay c p : sProp 𝕄) ⊢ iprop(slotE false p c ∗ slotE true p c) := by
  unfold barPay
  iintro ⟨H, -⟩
  iexact H
theorem pays_split : (bigSep Finset.univ fun s : Fin 7 => barPay c (peer s c) : sProp 𝕄)
    ⊢ iprop((bigSep Finset.univ fun s : Fin 7 => slotE false (peer s c) c) ∗ bigSep Finset.univ fun s : Fin 7 => slotE true (peer s c) c) := by
  rw [← bigSep_sep']
  exact bigSep_mono fun s _ => barPay_slots c _

set_option maxRecDepth 20000 in
/-- The body, run from its start: it ends with the slots filled, the shares back, and the result stored. -/
theorem body_run (g : S2x128x512.Idx → Elt F .f32) :
    Comp c (Start m ρ K c g) (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5) ⟨⟩ (backs m ρ K c (Done m ρ c (outB m ρ c)) 7 7) := by
  rw [cc0_body_eq_skeleton]; unfold cc0_body_skel
  rw [k0_part62_eq_skeleton]; unfold k0_part62_skel
  simp only [Prog.lift, Prog.bind_assoc, Prog.bind_op, Prog.bind_ret, Prog.pure_eq_ret]
  -- the handshake
  refine Comp.bind c (Comp.conseq c (R₁ := iprop((ctx m ρ K ∗ owesX c (owedB c 7) ∗ sigP c 0) ∗ ctx m ρ K
      ∗ (atPos ER (barCell c) 0 ∅ 0 ∗ cred (tallyAt (barCell c) () 7)) ∗ (stgHold c cc0_stg1_0 (qB m ρ c) ∗ stgHold c cc0_stg4_0 (oB m ρ c))
      ∗ (slotE false c c ∗ slotE true c c) ∗ Rest m ρ c g)) ?_ (Comp.frame c _ (fun Q => part1_run m ρ K c))) ?_
  · unfold Start
    iintro ⟨#Hc, HO, HP, HR⟩
    isplitl [HO HP]
    · isplitr; · iexact Hc
      isplitl [HO]; · iexact HO
      iexact HP
    isplitr; · iexact Hc
    iexact HR
  refine Comp.bind c (Comp.conseq c (R₁ := iprop((ctx m ρ K ∗ owesX c (owedB c 2) ∗ sigP c 5 ∗ atPos ER (barCell c) 0 ∅ 0 ∗ cred (tallyAt (barCell c) () 7)
        ∗ stgHold c cc0_stg1_0 (qB m ρ c) ∗ stgHold c cc0_stg4_0 (oB m ρ c) ∗ slotE false c c ∗ slotE true c c) ∗ ctx m ρ K ∗ Rest m ρ c g)) ?_
      (Comp.frame c _ (fun Q => part2_run m ρ K c _ _))) ?_
  · iintro ⟨⟨HO, HP⟩, #Hc, ⟨H1, H2⟩, ⟨H3, H4⟩, ⟨H5, H6⟩, HR⟩
    isplitl [HO HP H1 H2 H3 H4 H5 H6]
    · isplitr; · iexact Hc
      isplitl [HO]; · iexact HO
      isplitl [HP]; · iexact HP
      isplitl [H1]; · iexact H1
      isplitl [H2]; · iexact H2
      isplitl [H3]; · iexact H3
      isplitl [H4]; · iexact H4
      isplitl [H5]; · iexact H5
      iexact H6
    isplitr; · iexact Hc
    iexact HR
  -- the copies
  refine Comp.bind c (Comp.conseq c (R₁ := iprop(sends m ρ K c 0 0 (owedS c 7) ∗ Kept m ρ c g)) ?_ (Comp.frame c _ (part3_run m ρ K c _))) ?_
  · rw [slot_shares, slot_shares]
    iintro ⟨⟨HO, Hz, HP, H1, H4, ⟨Hqk, Hql⟩, ⟨Hok, Hol⟩⟩, #Hc, ⟨Ht, Ht'⟩, Hs, Hr, HX, HG⟩
    ihave HP := (pays_split c) $$ HP
    icases HP with ⟨HPq, HPo⟩
    isplitl [HO Ht Ht' Hql Hol HPq HPo]
    · isplitr; · iexact Hc
      isplitl [HO]; · iexact HO
      isplitl [Ht HPq Hql]
      · iapply (sends_ready m ρ c false)
        isplitl [Ht]; · iexact Ht
        isplitl [HPq]; · iexact HPq
        iexact Hql
      · iapply (sends_ready m ρ c true)
        isplitl [Ht']; · iexact Ht'
        isplitl [HPo]; · iexact HPo
        iexact Hol
    isplitl [Hz H1 H4]
    · isplitl [Hz]; · iexact Hz
      isplitl [H1]; · iexact H1
      iexact H4
    isplitl [Hqk Hok]
    · isplitl [Hqk]; · iexact Hqk
      iexact Hok
    isplitl [Hs]; · iexact Hs
    isplitl [Hr]; · iexact Hr
    isplitl [HX]; · iexact HX
    iexact HG
  refine Comp.bind c (Comp.frame c _ (part4_run m ρ K c)) ?_
  refine Comp.bind c (Comp.frame c _ (part5_run m ρ K c _)) ?_
  refine Comp.bind c (Comp.frame c _ (part6_run m ρ K c)) ?_
  refine Comp.bind c (Comp.frame c _ (part7_run m ρ K c _)) ?_
  -- the middle
  refine Comp.bind c (v := ⟨maskC c, keepC c, k0_pay7 (xB m ρ c), accD m ρ c 0 0 (by decide), _⟩)
    (Comp.conseq c (R₁ := St m ρ K c iprop(stgHold c cc0_stg5_0 g ∗ Aside m ρ c) 0) ?_ (part8_run m ρ K c _ _ _ _)) ?_
  · unfold St
    iintro ⟨⟨#Hc, HO, HA, HB⟩, ⟨Hz, H1, H4⟩, ⟨Hqk, Hok⟩, ⟨Hs, Hs'⟩, ⟨Hr, Hr'⟩, ⟨HX, HK, HV⟩, HG⟩
    isplitr; · iexact Hc
    isplitl [HO]; · iexact HO
    isplitl [Hqk Hr]
    · iapply (recvs_ready m ρ c false)
      isplitl [Hqk]; · iexact Hqk
      iexact Hr
    isplitl [Hok Hr']
    · iapply (recvs_ready m ρ c true)
      isplitl [Hok]; · iexact Hok
      iexact Hr'
    isplitl [HX]; · iexact HX
    isplitl [HK]; · iexact HK
    isplitl [HV]; · iexact HV
    isplitl [HG]; · iexact HG
    isplitl [HA Hs HB Hs']
    · isplitl [HA Hs]
      · iapply (backs_ready m ρ c false)
        isplitl [HA]; · iexact HA
        iexact Hs
      · iapply (backs_ready m ρ c true)
        isplitl [HB]; · iexact HB
        iexact Hs'
    isplitl [Hz]; · iexact Hz
    isplitl [H1]; · iexact H1
    iexact H4
  refine Comp.bind c (v := ⟨accD m ρ c 1 0 (by decide), _⟩) (part9_run m ρ K c _ _ _ _ _) ?_
  refine Comp.bind c (part10_run m ρ K c _ _ _ _ _) ?_
  refine Comp.bind c (part11_run m ρ K c _ _ _ _ _ _ _) ?_
  refine Comp.bind c (v := ⟨accD m ρ c 0 1 (by decide), _⟩) (part12_run m ρ K c _ _ _ _ _ _ _ _ _ _ _) ?_
  refine Comp.bind c (part13_run m ρ K c _ _ _ _ _ _) ?_
  refine Comp.bind c (part14_run m ρ K c _ _ _ _ _ _ _) ?_
  refine Comp.bind c (v := ⟨accD m ρ c 1 1 (by decide), _⟩) (part15_run m ρ K c _ _ _ _ _ _ _ _ _ _ _) ?_
  refine Comp.bind c (part16_run m ρ K c _ _ _ _ _ _) ?_
  refine Comp.bind c (part17_run m ρ K c _ _ _ _ _ _) ?_
  refine Comp.bind c (v := ⟨accD m ρ c 0 2 (by decide), _⟩) (part18_run m ρ K c _ _ _ _ _ _ _ _ _ _ _) ?_
  refine Comp.bind c (part19_run m ρ K c _ _ _ _ _ _ _) ?_
  refine Comp.bind c (part20_run m ρ K c _ _ _ _ _) ?_
  refine Comp.bind c (v := ⟨accD m ρ c 1 2 (by decide), _⟩) (part21_run m ρ K c _ _ _ _ _ _ _ _ _) ?_
  refine Comp.bind c (part22_run m ρ K c _ _ _ _ _ _ _ _) ?_
  refine Comp.bind c (part23_run m ρ K c _ _ _ _ _ _ _) ?_
  refine Comp.bind c (v := ⟨accD m ρ c 0 3 (by decide), _⟩) (part24_run m ρ K c _ _ _ _ _ _ _ _ _ _ _) ?_
  refine Comp.bind c (part25_run m ρ K c _ _ _ _ _ _) ?_
  refine Comp.bind c (part26_run m ρ K c _ _ _ _ _ _ _) ?_
  refine Comp.bind c (v := ⟨accD m ρ c 1 3 (by decide), _⟩) (part27_run m ρ K c _ _ _ _ _ _ _ _ _ _) ?_
  refine Comp.bind c (part28_run m ρ K c _ _ _ _ _) ?_
  refine Comp.bind c (part29_run m ρ K c _ _ _ _ _ _ _) ?_
  refine Comp.bind c (v := ⟨accD m ρ c 0 4 (by decide), _⟩) (part30_run m ρ K c _ _ _ _ _ _ _ _ _ _) ?_
  refine Comp.bind c (part31_run m ρ K c _ _ _ _ _) ?_
  refine Comp.bind c (part32_run m ρ K c _ _ _ _ _ _) ?_
  refine Comp.bind c (v := ⟨accD m ρ c 1 4 (by decide), _⟩) (part33_run m ρ K c _ _ _ _ _ _ _ _ _ _ _) ?_
  refine Comp.bind c (part34_run m ρ K c _ _ _ _) ?_
  refine Comp.bind c (part35_run m ρ K c _ _ _ _ _ _) ?_
  refine Comp.bind c (part36_run m ρ K c _ _ _ _ _ _ _ _ _) ?_
  refine Comp.bind c (v := ⟨accD m ρ c 0 5 (by decide), _⟩) (part37_run m ρ K c _ _ _ _ _ _) ?_
  refine Comp.bind c (part38_run m ρ K c _ _ _ _ _) ?_
  refine Comp.bind c (part39_run m ρ K c _ _ _ _ _ _ _) ?_
  refine Comp.bind c (v := ⟨accD m ρ c 1 5 (by decide), _⟩) (part40_run m ρ K c _ _ _ _ _ _ _ _ _ _) ?_
  refine Comp.bind c (part41_run m ρ K c _ _ _ _ _ _) ?_
  refine Comp.bind c (part42_run m ρ K c _ _ _ _ _ _) ?_
  refine Comp.bind c (v := ⟨accD m ρ c 0 6 (by decide), _⟩) (part43_run m ρ K c _ _ _ _ _ _ _ _ _ _ _) ?_
  refine Comp.bind c (part44_run m ρ K c _ _ _ _ _ _) ?_
  refine Comp.bind c (part45_run m ρ K c _ _ _ _ _ _) ?_
  refine Comp.bind c (v := ⟨accD m ρ c 1 6 (by decide), _⟩) (part46_run m ρ K c _ _ _ _ _ _ _ _ _ _) ?_
  refine Comp.bind c (part47_run m ρ K c _ _ _ _ _ _) ?_
  refine Comp.bind c (part48_run m ρ K c _ _ _ _ _ _) ?_
  refine Comp.bind c (v := ⟨accD m ρ c 0 7 (by decide), _⟩) (part49_run m ρ K c _ _ _ _ _ _ _ _ _ _) ?_
  refine Comp.bind c (part50_run m ρ K c _ _ _ _ _ _ _ _) ?_
  refine Comp.bind c (part51_run m ρ K c _ _ _ _ _ _ _) ?_
  refine Comp.bind c (v := ⟨accD m ρ c 1 7 (by decide), _⟩) (part52_run m ρ K c _ _ _ _ _ _ _ _ _ _ _) ?_
  refine Comp.bind c (part53_run m ρ K c _ _ _ _ _) ?_
  refine Comp.bind c (part54_run m ρ K c _ _ _ _ _ _ _) ?_
  refine Comp.bind c (v := ⟨accD m ρ c 0 8 (by decide), _⟩) (part55_run m ρ K c _ _ _ _ _ _ _ _ _) ?_
  refine Comp.bind c (part56_run m ρ K c _ _ _ _ _) ?_
  refine Comp.bind c (part57_run m ρ K c _ _ _ _ _ _ _) ?_
  -- the result's stores and the waits for the copies
  refine Comp.bind c (v := accD m ρ c 1 8 (by decide)) (part58_run m ρ K c _ g _ _ _ _ _ _ _ _ _) ?_
  refine Comp.bind c (Comp.conseq c (R₁ := iprop(stgHold c cc0_stg5_0 ((oW.access (Rect.unit (s := S2x128x512) ![0, 0, 0] S1x128x512.size inb_S2x128x512_S1x128x512_0_0_0)).write (Elt F) g (k0_pay186 (accD m ρ c 0 8 (by decide))) Finset.univ) ∗ backs m ρ K c (iprop((semVal (barCell c) 0 ∗ stgHold c cc0_stg1_0 (qB m ρ c) ∗ stgHold c cc0_stg4_0 (oB m ρ c))
    ∗ (recvP m ρ false c 8 ∗ recvP m ρ true c 8)
    ∗ stgHold c cc0_stg0_0 (xB m ρ c) ∗ stgHold c cc0_stg2_0 (kB m ρ c) ∗ stgHold c cc0_stg3_0 (vB m ρ c))) 0 0)) ?_ (part59_run m ρ K c _ _ _)) ?_
  · unfold St
    iintro ⟨HG, #Hc, HO, HA, HB, HX, HK, HV, ⟨HS, HS'⟩, Hz, H1, H4⟩
    isplitl [HG]; · iexact HG
    isplitr; · iexact Hc
    isplitl [HO]; · iexact HO
    isplitl [HS]; · iexact HS
    isplitl [HS']; · iexact HS'
    isplitl [Hz H1 H4]
    · isplitl [Hz]; · iexact Hz
      isplitl [H1]; · iexact H1
      iexact H4
    isplitl [HA HB]
    · isplitl [HA]; · iexact HA
      iexact HB
    isplitl [HX]; · iexact HX
    isplitl [HK]; · iexact HK
    iexact HV
  rw [out_stored]
  refine Comp.bind c (part60_run m ρ K c (Done m ρ c (outB m ρ c))) ?_
  refine Comp.bind c (part61_run m ρ K c (Done m ρ c (outB m ρ c))) ?_
  refine back_o m ρ K c (Done m ρ c (outB m ρ c)) 6 7 rfl (oSl_eq c (k0_off5_eq c) _) ?_
  exact Comp.ret c _ _

end Body

end Cert.KernelIdeal.Gather

end
-- ==== Proof.Data.lean ====
/-
The data of the launch, and the body's obligation.
-/
module

public import proofs.«01_k».proof.Proof.Body
public import Idealize.ShloMosaic.Lib.Ring

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the pipeline's proof -/

section Start

/-- The positions at one buffer's receive cells, and the credits of those that receive. -/
def recvPos (c : Dev nD) (b : Bool) : sProp 𝕄 := bigSep Finset.univ fun j : Fin 8 => atPos ER (recvCell b c j) 0 ∅ 0
def recvCreds (c : Dev nD) (b : Bool) : sProp 𝕄 := bigSep Finset.univ fun j : Fin 8 => if j = c then iprop(emp) else cred (tallyAt (recvCell b c j) () (N b))
/-- The tokens of a device's signals. -/
def sigToks (c : Dev nD) : sProp 𝕄 := bigSep Finset.univ fun s : Fin 7 => dutyTok ER (barCell (peer s c)) 0 c
/-- The positions at a device's cells and the tokens of what it pays. -/
def linear (c : Dev nD) : sProp 𝕄 :=
  iprop((atPos ER (barCell c) 0 ∅ 0 ∗ (sendAts c false ∗ recvPos c false) ∗ (sendAts c true ∗ recvPos c true))
    ∗ sigToks c ∗ sendToks c false ∗ sendToks c true)
/-- What device `c` starts from, beside its buffers. -/
def start (c : Dev nD) : sProp 𝕄 :=
  iprop((∃ K, ctx m ρ K ∗ linear c) ∗ cred (tallyAt (barCell c) () 7) ∗ recvCreds c false ∗ recvCreds c true)

/-- The two gathered buffers whole, at some contents. -/
abbrev scr (c : Dev nD) : sProp 𝕄 :=
  iprop((∃ f : Buf (Elt F) ((c : Thread nD τ).loc cc0_scratch0), ((c : Thread nD τ).loc cc0_scratch0) ↦{fullShare} f)
    ∗ ∃ f : Buf (Elt F) ((c : Thread nD τ).loc cc0_scratch1), ((c : Thread nD τ).loc cc0_scratch1) ↦{fullShare} f)
/-- The exchange's semaphores at zero. -/
def zeros (c : Dev nD) : sProp 𝕄 :=
  iprop(semVal (barCell c) 0
    ∗ ((bigSep Finset.univ fun s : Fin 7 => semVal (sendCell false c s) 0) ∗ bigSep Finset.univ fun j : Fin 8 => semVal (recvCell false c j) 0)
    ∗ (bigSep Finset.univ fun s : Fin 7 => semVal (sendCell true c s) 0) ∗ bigSep Finset.univ fun j : Fin 8 => semVal (recvCell true c j) 0)

def Φ₀ (c : Dev nD) : sProp 𝕄 := iprop(start m ρ c ∗ scr c)
def Φ₁ (c : Dev nD) : sProp 𝕄 := iprop(scr c ∗ zeros c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xB m ρ c
    | ⟨1, _⟩ => qB m ρ c
    | ⟨2, _⟩ => kB m ρ c
    | ⟨3, _⟩ => vB m ρ c
    | ⟨4, _⟩ => oB m ρ c
    | ⟨5, _⟩ => outB m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ stgHold c b f) := by
  unfold owns; simp only [Memref.view_whole, View.read_whole, View.set_whole]

/-! ## Buffers whole and slot by slot -/

theorem slotE_q (c j : Dev nD) (f : S8x512x256.Idx → Elt F .bf16) : (((c : Thread nD τ).loc cc0_scratch0) ↦[qSet j]{fullShare} f : sProp 𝕄) ⊢ slotE false c j := by
  rw [← qHold_eq]
  show _ ⊢ iprop(∃ f, qHold c j fullShare f)
  iintro H; iexists f; iexact H
theorem slotE_o (c j : Dev nD) (f : S8x256x512.Idx → Elt F .bf16) : (((c : Thread nD τ).loc cc0_scratch1) ↦[oSet j]{fullShare} f : sProp 𝕄) ⊢ slotE true c j := by
  rw [← oHold_eq]
  show _ ⊢ iprop(∃ f, oHold c j fullShare f)
  iintro H; iexists f; iexact H
theorem slots_open (c : Dev nD) : (scr c : sProp 𝕄) ⊢ iprop((bigSep Finset.univ fun j : Fin 8 => slotE false c j) ∗ bigSep Finset.univ fun j : Fin 8 => slotE true c j) := by
  iintro ⟨⟨%f, Hf⟩, ⟨%g, Hg⟩⟩
  isplitl [Hf]
  · ihave Hf := (Entails.of_eq (Ring.pointsTo_blocks qSet qSet_disj qSet_cover f)) $$ Hf
    iapply (show (bigSep Finset.univ fun j => (((c : Thread nD τ).loc cc0_scratch0) ↦[qSet j]{fullShare} f : sProp 𝕄)) ⊢ bigSep Finset.univ fun j : Fin 8 => slotE false c j from
      bigSep_mono fun j _ => slotE_q c j f)
    iexact Hf
  · ihave Hg := (Entails.of_eq (Ring.pointsTo_blocks oSet oSet_disj oSet_cover g)) $$ Hg
    iapply (show (bigSep Finset.univ fun j => (((c : Thread nD τ).loc cc0_scratch1) ↦[oSet j]{fullShare} g : sProp 𝕄)) ⊢ bigSep Finset.univ fun j : Fin 8 => slotE true c j from
      bigSep_mono fun j _ => slotE_o c j g)
    iexact Hg
theorem slots_close (c : Dev nD) : iprop((bigSep Finset.univ fun j : Fin 8 => slotP m ρ false c j fullShare) ∗ bigSep Finset.univ fun j : Fin 8 => slotP m ρ true c j fullShare) ⊢ (scr c : sProp 𝕄) := by
  unfold slotP; simp only [qHold_eq, oHold_eq]
  iintro ⟨Hf, Hg⟩
  isplitl [Hf]
  · iexists (WQ m ρ)
    iapply (Entails.of_eq (Ring.pointsTo_blocks qSet qSet_disj qSet_cover (ℓ := (c : Thread nD τ).loc cc0_scratch0) (WQ m ρ)).symm)
    iexact Hf
  · iexists (WO m ρ)
    iapply (Entails.of_eq (Ring.pointsTo_blocks oSet oSet_disj oSet_cover (ℓ := (c : Thread nD τ).loc cc0_scratch1) (WO m ρ)).symm)
    iexact Hg

variable (K : Dev nD × Role → ℕ) (c : Dev nD)

/-- A buffer's slots: the own one, and those the signals hand over. -/
theorem recvAts_intro (b : Bool) : iprop(recvPos c b ∗ recvCreds c b) ⊢ recvAts (F := F) c b := by
  unfold recvPos recvCreds recvAts
  rw [← bigSep_sep']
theorem sigP_intro : iprop(sigToks c ∗ (bigSep Finset.univ fun s : Fin 7 => slotE false c (peer s c)) ∗ bigSep Finset.univ fun s : Fin 7 => slotE true c (peer s c))
    ⊢ sigP (F := F) c 0 := by
  unfold sigToks sigP
  rw [prog_zero, ← bigSep_sep', ← bigSep_sep']

theorem start_body (g : S2x128x512.Idx → Elt F .f32) :
    iprop((ctx m ρ K ∗ linear c) ∗ (cred (tallyAt (barCell c) () 7) ∗ recvCreds c false ∗ recvCreds c true) ∗ scr c ∗ owesX c (O₀ c)
      ∗ stgHold c cc0_stg0_0 (xB m ρ c) ∗ stgHold c cc0_stg1_0 (qB m ρ c) ∗ stgHold c cc0_stg2_0 (kB m ρ c) ∗ stgHold c cc0_stg3_0 (vB m ρ c)
      ∗ stgHold c cc0_stg4_0 (oB m ρ c) ∗ stgHold c cc0_stg5_0 g) ⊢ Start m ρ K c g := by
  unfold linear Start O₀
  iintro ⟨⟨#Hc, ⟨HaB, ⟨HsQ, HrQ⟩, ⟨HsO, HrO⟩⟩, HtB, HtQ, HtO⟩, ⟨HcB, HcQ, HcO⟩, Hscr, HO, H0, H1, H2, H3, H4, H5⟩
  ihave Hs := (slots_open c) $$ Hscr
  rw [bigSep_peers c (fun j : Fin 8 => slotE false c j), bigSep_peers c (fun j : Fin 8 => slotE true c j)]
  icases Hs with ⟨⟨Hq, Hqs⟩, ⟨Ho, Hos⟩⟩
  isplitr; · iexact Hc
  isplitl [HO]; · iexact HO
  isplitl [HtB Hqs Hos]
  · iapply (sigP_intro c)
    isplitl [HtB]; · iexact HtB
    isplitl [Hqs]; · iexact Hqs
    iexact Hos
  isplitl [HaB HcB]
  · isplitl [HaB]; · iexact HaB
    iexact HcB
  isplitl [H1 H4]
  · isplitl [H1]; · iexact H1
    iexact H4
  isplitl [Hq Ho]
  · isplitl [Hq]; · iexact Hq
    iexact Ho
  isplitl [HtQ HtO]
  · isplitl [HtQ]; · iexact HtQ
    iexact HtO
  isplitl [HsQ HsO]
  · isplitl [HsQ]; · iexact HsQ
    iexact HsO
  isplitl [HrQ HcQ HrO HcO]
  · isplitl [HrQ HcQ]
    · iapply (recvAts_intro c false)
      isplitl [HrQ]; · iexact HrQ
      iexact HcQ
    · iapply (recvAts_intro c true)
      isplitl [HrO]; · iexact HrO
      iexact HcO
  isplitl [H0 H2 H3]
  · isplitl [H0]; · iexact H0
    isplitl [H2]; · iexact H2
    iexact H3
  iexact H5

/-- The waits done, a buffer's slots are whole again and its semaphores at zero. -/
theorem slots_back (b : Bool) : iprop(recvP m ρ b c 8 ∗ backP m ρ b c 7)
    ⊢ iprop((bigSep Finset.univ fun j : Fin 8 => slotP m ρ b c j fullShare)
      ∗ (bigSep Finset.univ fun s : Fin 7 => semVal (sendCell b c s) 0) ∗ bigSep Finset.univ fun j : Fin 8 => semVal (recvCell b c j) 0) := by
  unfold recvP backP
  rw [prog_all, prog_all, bigSep_sep', bigSep_sep',
    bigSep_take c (fun j : Fin 8 => slotP m ρ b c j (shareOf c j)), bigSep_take c (fun j : Fin 8 => slotP m ρ b c j fullShare), slot_shares,
    show shareOf c c = kept from if_pos rfl,
    bigSep_congr (s := Finset.univ.erase c) (Φ := fun j : Fin 8 => slotP m ρ b c j (shareOf c j)) (Ψ := fun j : Fin 8 => slotP m ρ b c j fullShare)
      (fun j hj => by rw [show shareOf c j = fullShare from if_neg (Finset.ne_of_mem_erase hj)])]
  iintro ⟨⟨Hz, Hk, Hr⟩, ⟨Hz', Hl⟩⟩
  isplitl [Hk Hl Hr]
  · isplitl [Hk Hl]
    · isplitl [Hk]; · iexact Hk
      iexact Hl
    iexact Hr
  isplitl [Hz']; · iexact Hz'
  iexact Hz

theorem end_body :
    backs m ρ K c (Done m ρ c (outB m ρ c)) 7 7
      ⊢ iprop(Φ₁ c ∗ owesX c 0
        ∗ stgHold c cc0_stg0_0 (xB m ρ c) ∗ stgHold c cc0_stg1_0 (qB m ρ c) ∗ stgHold c cc0_stg2_0 (kB m ρ c) ∗ stgHold c cc0_stg3_0 (vB m ρ c)
        ∗ stgHold c cc0_stg4_0 (oB m ρ c) ∗ stgHold c cc0_stg5_0 (outB m ρ c)) := by
  unfold Φ₁ zeros
  iintro ⟨-, HO, Hbq, Hbo, H5, ⟨Hz, H1, H4⟩, ⟨Hrq, Hro⟩, H0, H2, H3⟩
  ihave HQ := (slots_back m ρ c false) $$ [Hrq Hbq]
  · isplitl [Hrq]; · iexact Hrq
    iexact Hbq
  ihave HW := (slots_back m ρ c true) $$ [Hro Hbo]
  · isplitl [Hro]; · iexact Hro
    iexact Hbo
  icases HQ with ⟨HQ, HzQ⟩
  icases HW with ⟨HW, HzW⟩
  isplitl [HQ HzQ HW HzW Hz]
  · isplitl [HQ HW]
    · iapply (slots_close m ρ c)
      isplitl [HQ]; · iexact HQ
      iexact HW
    isplitl [Hz]; · iexact Hz
    isplitl [HzQ]; · iexact HzQ
    iexact HzW
  isplitl [HO]; · iexact HO
  isplitl [H0]; · iexact H0
  isplitl [H1]; · iexact H1
  isplitl [H2]; · iexact H2
  isplitl [H3]; · iexact H3
  isplitl [H4]; · iexact H4
  iexact H5

/-! ## The body's obligation -/

abbrev stg (b : Ref sig .tc) (X : b.ty.Contents (Elt F)) : sProp 𝕄 := iprop(∃ f : Buf (Elt F) ((c : Thread nD τ).loc b), ⌜f = X⌝ ∗ stgHold c b f)

def bodyPre : sProp 𝕄 :=
  iprop(Φ₀ m ρ c ∗ (dats m ρ 0 c).owesAt () t0_0.castSucc
    ∗ (∃ d, stg c cc0_stg0_0 ((dats m ρ 0 c).before (0 : Fin 6) t0_0 d)) ∗ (∃ d, stg c cc0_stg1_0 ((dats m ρ 0 c).before (1 : Fin 6) t0_0 d)) ∗ (∃ d, stg c cc0_stg2_0 ((dats m ρ 0 c).before (2 : Fin 6) t0_0 d)) ∗ (∃ d, stg c cc0_stg3_0 ((dats m ρ 0 c).before (3 : Fin 6) t0_0 d)) ∗ (∃ d, stg c cc0_stg4_0 ((dats m ρ 0 c).before (4 : Fin 6) t0_0 d)) ∗ (∃ d, stg c cc0_stg5_0 ((dats m ρ 0 c).before (5 : Fin 6) t0_0 d)))
def bodyPost : sProp 𝕄 :=
  iprop(Φ₁ c ∗ (dats m ρ 0 c).owesAt () t0_0.succ
    ∗ stg c cc0_stg0_0 (xB m ρ c) ∗ stg c cc0_stg1_0 (qB m ρ c) ∗ stg c cc0_stg2_0 (kB m ρ c) ∗ stg c cc0_stg3_0 (vB m ρ c) ∗ stg c cc0_stg4_0 (oB m ρ c) ∗ stg c cc0_stg5_0 (outB m ρ c))

theorem fetched (w : Fin 6) (h : w.val < 5) : (cfg0.win w).fetch t0_0 = true := by revert h; revert w; decide

theorem fetch_0 (d) : (dats m ρ 0 c).before (0 : Fin 6) t0_0 d = xB m ρ c := by unfold Dat.before; rw [if_pos (fetched 0 (by decide))]; rfl
theorem fetch_1 (d) : (dats m ρ 0 c).before (1 : Fin 6) t0_0 d = qB m ρ c := by unfold Dat.before; rw [if_pos (fetched 1 (by decide))]; rfl
theorem fetch_2 (d) : (dats m ρ 0 c).before (2 : Fin 6) t0_0 d = kB m ρ c := by unfold Dat.before; rw [if_pos (fetched 2 (by decide))]; rfl
theorem fetch_3 (d) : (dats m ρ 0 c).before (3 : Fin 6) t0_0 d = vB m ρ c := by unfold Dat.before; rw [if_pos (fetched 3 (by decide))]; rfl
theorem fetch_4 (d) : (dats m ρ 0 c).before (4 : Fin 6) t0_0 d = oB m ρ c := by unfold Dat.before; rw [if_pos (fetched 4 (by decide))]; rfl

theorem body_sound : bodyPre m ρ c ⊢ WP c (cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _) (Memref.whole cc0_stg4_0) (Memref.isWhole_whole _)
    (Memref.whole cc0_stg5_0) (Memref.isWhole_whole _) qM (Memref.isWhole_whole _) oM (Memref.isWhole_whole _) cc0_scratch2 cc0_scratch3 cc0_scratch4 cc0_scratch5) (fun _ => bodyPost m ρ c) := by
  unfold bodyPre Φ₀ start
  iintro ⟨⟨⟨⟨%K, Hg⟩, Hcr⟩, Hscr⟩, Ho, ⟨%d0, %g0, %h0, H0⟩, ⟨%d1, %g1, %h1, H1⟩, ⟨%d2, %g2, %h2, H2⟩, ⟨%d3, %g3, %h3, H3⟩, ⟨%d4, %g4, %h4, H4⟩, ⟨%d5, %g5, %h5, H5⟩⟩
  rw [fetch_0] at h0; rw [fetch_1] at h1; rw [fetch_2] at h2; rw [fetch_3] at h3; rw [fetch_4] at h4
  subst h0 h1 h2 h3 h4
  unfold Dat.owesAt Pipeline.owesWithin
  icases Ho with ⟨%W, %hW, HO⟩
  rw [show (dats m ρ 0 c).owed t0_0.castSucc = O₀ c from rfl]
  iapply (body_run m ρ K c g5 (fun _ => bodyPost m ρ c)) $$ [Hg Hcr Hscr HO H0 H1 H2 H3 H4 H5]
  · iapply (start_body m ρ K c g5)
    isplitl [Hg]; · iexact Hg
    isplitl [Hcr]; · iexact Hcr
    isplitl [Hscr]; · iexact Hscr
    isplitl [HO]; · unfold owesX; iexists W; iexact HO
    isplitl [H0]; · iexact H0
    isplitl [H1]; · iexact H1
    isplitl [H2]; · iexact H2
    isplitl [H3]; · iexact H3
    isplitl [H4]; · iexact H4
    iexact H5
  iintro HE
  ihave HE := (end_body m ρ K c) $$ HE
  unfold owesX
  icases HE with ⟨HΦ, ⟨%W', HO⟩, H0, H1, H2, H3, H4, H5⟩
  unfold bodyPost Dat.owesAt Pipeline.owesWithin
  rw [show (dats m ρ 0 c).owed t0_0.succ = 0 from rfl]
  isplitl [HΦ]; · iexact HΦ
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 4000 in
/-- The library's obligation on the body. -/
theorem body_obligation : BodyObligation (dats (F := F) m ρ 0 c) (defs₀ (F := F)) 𝒱₀ () Set.univ := fun t => by
  rw [fin_N0 t]
  rw [bigSep_W0, bigSep_W0]
  simp only [owns_whole]
  exact body_sound m ρ c

end Start

end Cert.KernelIdeal.Gather

end
-- ==== Proof.Launch.lean ====
/-
The launch: the exchange's ghost state, and the run of the whole program.
-/
module

public import proofs.«01_k».proof.Proof.Data
public import Idealize.ShloMosaic.Lib.Pipeline.CollectiveSegs

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The exchange's cells and tokens -/

theorem ownSemFacts : Pipeline.OwnSemFacts cfg0.spec osem := by decide

theorem share_eq (c : Dev nD) (w : Fin cfg0.W) : (dats m ρ 0 c).share w = fullShare := by unfold Dat.share; split <;> rfl

def gatherCells : Finset (GSem nD τ sig) := Finset.univ.map ⟨kcell, kcell_injective⟩

/-- The tokens of a device's own cells: its barrier's, one for each other device; then each buffer's sends and receipts. -/
abbrev Tok : Type := Fin 7 ⊕ (Bool × (Fin 7 ⊕ Fin 7))
/-- A token's cell and duty. -/
def tokKey (c : Dev nD) : Tok → Role × Dev nD
  | .inl s => (none, peer s.rev c)
  | .inr (b, .inl s) => (some (b, .inl s), 0)
  | .inr (b, .inr s) => (some (b, .inr (peer s.rev c)), 0)
theorem tokKey_injective (c : Dev nD) : Function.Injective (tokKey c) := by revert c; decide
def tokOf (ct : Dev nD × Tok) : GSem nD τ sig × ℕ × Dev nD := (kcell (ct.1, (tokKey ct.1 ct.2).1), 0, (tokKey ct.1 ct.2).2)
theorem tokOf_injective : Function.Injective tokOf := by
  rintro ⟨c, t⟩ ⟨c', t'⟩ h
  have h1 := kcell_injective (congrArg Prod.fst h)
  have hc : c = c' := congrArg Prod.fst h1
  subst hc
  have h2 : tokKey c t = tokKey c t' := Prod.ext (congrArg Prod.snd h1) (congrArg (fun x : GSem nD τ sig × ℕ × Dev nD => x.2.2) h)
  rw [tokKey_injective c h2]
def gatherToks : Finset (GSem nD τ sig × ℕ × Dev nD) := Finset.univ.map ⟨tokOf, tokOf_injective⟩

def u₀ : UU := (initOf (Pipeline.cells cfgs cellOf_inj) (Pipeline.launchToks cfgs cellOf_inj), initOf gatherCells gatherToks)

/-! ### Conjunctions over roles and tokens -/

theorem bigSep_bool' (Φ : Bool → sProp 𝕄) : bigSep Finset.univ Φ = iprop(Φ false ∗ Φ true) :=
  bigSep_univ_eq_bigSepL [false, true] (by decide) (by decide) Φ
theorem bigSep_sum' {A B : Type} [Fintype A] [Fintype B] (Φ : A ⊕ B → sProp 𝕄) :
    bigSep Finset.univ Φ = iprop((bigSep Finset.univ fun a => Φ (.inl a)) ∗ bigSep Finset.univ fun b => Φ (.inr b)) := bigSep_univ_sum Φ
/-- Over the roles of one buffer. -/
theorem bigSep_own (Φ : Bool × (Fin 7 ⊕ Fin 8) → sProp 𝕄) :
    bigSep Finset.univ Φ = iprop(((bigSep Finset.univ fun s : Fin 7 => Φ (false, .inl s)) ∗ bigSep Finset.univ fun j : Fin 8 => Φ (false, .inr j))
      ∗ (bigSep Finset.univ fun s : Fin 7 => Φ (true, .inl s)) ∗ bigSep Finset.univ fun j : Fin 8 => Φ (true, .inr j)) := by
  rw [bigSep_univ_prod, bigSep_bool', bigSep_sum', bigSep_sum']
/-- Over all roles. -/
theorem bigSep_role (Φ : Role → sProp 𝕄) : bigSep Finset.univ Φ = iprop(Φ none ∗ bigSep Finset.univ fun k => Φ (some k)) := by
  rw [bigSep_erase (Finset.mem_univ none),
    show (Finset.univ : Finset Role).erase none = Finset.univ.map Function.Embedding.some by decide, bigSep_map]
  rfl
theorem bigSep_tok (Φ : Tok → sProp 𝕄) :
    bigSep Finset.univ Φ = iprop((bigSep Finset.univ fun s : Fin 7 => Φ (.inl s))
      ∗ ((bigSep Finset.univ fun s : Fin 7 => Φ (.inr (false, .inl s))) ∗ bigSep Finset.univ fun s : Fin 7 => Φ (.inr (false, .inr s)))
      ∗ (bigSep Finset.univ fun s : Fin 7 => Φ (.inr (true, .inl s))) ∗ bigSep Finset.univ fun s : Fin 7 => Φ (.inr (true, .inr s))) := by
  rw [bigSep_sum', bigSep_univ_prod, bigSep_bool', bigSep_sum', bigSep_sum']

/-! ### What each device is dealt -/

/-- The tokens of device `c`'s own cells. -/
def toks (c : Dev nD) : sProp 𝕄 := bigSep Finset.univ fun t : Tok => dutyTok ER (tokOf (c, t)).1 (tokOf (c, t)).2.1 (tokOf (c, t)).2.2

def G (c : Dev nD) : sProp 𝕄 :=
  iprop((bigSep Finset.univ fun k : Role => roundState ER (gatherRd m ρ) (kcell (c, k)) 0)
    ∗ (bigSep Finset.univ fun k : Role => iprop(atPos ER (kcell (c, k)) 0 ∅ 0 ∗ reached ER (kcell (c, k)) 0)) ∗ toks c)

/-- The invariants and the reached rounds. -/
def records (K : Dev nD × Role → ℕ) : sProp 𝕄 :=
  iprop((bigSep Finset.univ fun ck : Dev nD × Role => cellInv ER (gatherRd m ρ) (K ck) (kcell ck))
    ∗ bigSep Finset.univ fun ck : Dev nD × Role => reached ER (kcell ck) 0)
instance records_persistent (K : Dev nD × Role → ℕ) : BI.Persistent (records m ρ K) := by unfold records; infer_instance

def G' (c : Dev nD) : sProp 𝕄 := iprop(∃ K, records m ρ K ∗ linear c)

theorem fund_gather : BI.own (ER (initOf gatherCells gatherToks)) ⊢ (|==> bigSep Finset.univ (G m ρ) : sProp 𝕄) := by
  have hX (Φ : GSem nD τ sig → sProp 𝕄) : bigSep gatherCells Φ = bigSep Finset.univ fun c : Dev nD => bigSep Finset.univ fun k : Role => Φ (kcell (c, k)) := by
    unfold gatherCells; rw [bigSep_map, bigSep_univ_prod]; rfl
  have hT : bigSep gatherToks (fun x => (dutyTok ER x.1 x.2.1 x.2.2 : sProp 𝕄)) = bigSep Finset.univ fun c : Dev nD => toks c := by
    unfold gatherToks toks; rw [bigSep_map, bigSep_univ_prod]; rfl
  iintro HX
  imod (Rounds.fund ER (gatherRd m ρ) gatherCells gatherToks) $$ HX with ⟨Hst, Hr, Hat, Htok⟩
  imodintro
  ihave Hst := (Entails.of_eq (hX fun g => roundState ER (gatherRd m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat]; · iexact Hat
    iexact Hr
  iexact Htok

theorem unscopedSems0_bar (c : Dev nD) : (unscopedSems0 c : sProp 𝕄) = semVal (barCell c) 0 := by
  unfold unscopedSems0; rw [bigSep_eq_bigSepL_of_eq [SemLoc.reg barS] (by decide) (by decide)]; rfl

theorem sems0_roles (c : Dev nD) :
    iprop(Pipeline.ownSems0 (Ix := Unit) (Name := ℕ) (U := UU) (Lvl := ℕ) (Val := Elt F) (τ := τ) osem c ∗ unscopedSems0 c)
      ⊢ (bigSep Finset.univ fun k : Role => semVal (kcell (c, k)) 0 : sProp 𝕄) := by
  rw [unscopedSems0_bar, bigSep_role]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Role => iprop(∃ κ : ℕ, cellInv ER (gatherRd m ρ) κ (kcell (c, k))))
          ∗ (bigSep Finset.univ fun k : Role => iprop(atPos ER (kcell (c, k)) 0 ∅ 0 ∗ reached ER (kcell (c, k)) 0)) ∗ toks c) := by
  unfold G
  iintro ⟨Hos, Hus, Hst, Hat, Htok⟩
  ihave Hv := (sems0_roles (F := F) c) $$ [Hos Hus]
  · isplitl [Hos]; · iexact Hos
    iexact Hus
  imod (show iprop((bigSep Finset.univ fun k : Role => semVal (kcell (c, k)) 0) ∗ bigSep Finset.univ fun k : Role => roundState ER (gatherRd m ρ) (kcell (c, k)) 0)
      ⊢ (|={Set.univ}=> bigSep Finset.univ fun k => iprop(∃ κ : ℕ, cellInv ER (gatherRd m ρ) κ (kcell (c, k))) : sProp 𝕄) from by
        rw [← bigSep_sep']
        exact (bigSep_mono fun k _ => (Rounds.body_intro ER (gatherRd m ρ) (kcell (c, k))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- What is conjoined over devices and shifts, dealt to the device the shift names. -/
theorem around (Φ : Dev nD → Fin 7 → sProp 𝕄) :
    (bigSep Finset.univ fun c : Dev nD => bigSep Finset.univ fun s : Fin 7 => Φ c s) = bigSep Finset.univ fun c : Dev nD => bigSep Finset.univ fun s : Fin 7 => Φ (peer s c) s := by
  have hb : Function.Bijective (fun x : Dev nD × Fin 7 => ((peer x.2 x.1, x.2) : Dev nD × Fin 7)) := by
    refine Finite.injective_iff_bijective.mp ?_
    rintro ⟨c, s⟩ ⟨c', s'⟩ h
    obtain rfl : s = s' := congrArg Prod.snd h
    obtain rfl : c = c' := (peer_bij s).1 (congrArg Prod.fst h)
    rfl
  rw [← bigSep_univ_prod (fun x : Dev nD × Fin 7 => Φ x.1 x.2), bigSep_univ_equiv (Equiv.ofBijective _ hb), bigSep_univ_prod]
  rfl
theorem peer_back (s : Fin 7) (c : Dev nD) : peer s.rev (peer s c) = c := by revert s c; decide

theorem toks_around : (bigSep Finset.univ fun c : Dev nD => (toks c : sProp 𝕄)) ⊢ bigSep Finset.univ fun c : Dev nD => iprop(sigToks c ∗ sendToks c false ∗ sendToks c true) := by
  unfold toks sigToks sendToks
  simp only [bigSep_tok, bigSep_sep']
  rw [around fun c s => dutyTok ER (tokOf (c, .inl s)).1 (tokOf (c, .inl s)).2.1 (tokOf (c, .inl s)).2.2,
    around fun c s => dutyTok ER (tokOf (c, .inr (false, .inr s))).1 (tokOf (c, .inr (false, .inr s))).2.1 (tokOf (c, .inr (false, .inr s))).2.2,
    around fun c s => dutyTok ER (tokOf (c, .inr (true, .inr s))).1 (tokOf (c, .inr (true, .inr s))).2.1 (tokOf (c, .inr (true, .inr s))).2.2]
  unfold tokOf tokKey
  simp only [peer_back]
  iintro ⟨H1, ⟨H2, H3⟩, H4, H5⟩
  isplitl [H1]; · iexact H1
  isplitl [H2 H3]
  · isplitl [H2]; · iexact H2
    iexact H3
  isplitl [H4]; · iexact H4
  iexact H5

theorem persist_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem linear_intro (c : Dev nD) :
    iprop((bigSep Finset.univ fun k : Role => (atPos ER (kcell (c, k)) 0 ∅ 0 : sProp 𝕄)) ∗ sigToks c ∗ sendToks c false ∗ sendToks c true) ⊢ linear c := by
  unfold linear sendAts recvPos
  rw [bigSep_role, bigSep_own]
theorem G'_intro (K : Dev nD × Role → ℕ) (c : Dev nD) : iprop(records m ρ K ∗ linear c) ⊢ G' m ρ c := by
  unfold G'
  iintro H; iexists K; iexact H

theorem regroup :
    (bigSep Finset.univ fun c : Dev nD => iprop((bigSep Finset.univ fun k : Role => iprop(∃ κ : ℕ, cellInv ER (gatherRd m ρ) κ (kcell (c, k))))
          ∗ (bigSep Finset.univ fun k : Role => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Role => iprop(∃ κ : ℕ, cellInv ER (gatherRd m ρ) κ (kcell ck))),
    bigSep_congr (s := Finset.univ) (fun (c : Dev nD) _ => bigSep_sep' Finset.univ (fun k : Role => (atPos ER (kcell (c, k)) 0 ∅ 0 : sProp 𝕄)) (fun k => reached ER (kcell (c, k)) 0)),
    bigSep_sep', ← bigSep_univ_prod (fun ck : Dev nD × Role => (reached ER (kcell ck) 0 : sProp 𝕄))]
  iintro ⟨HI, ⟨Hat, #HR⟩, Htok⟩
  ihave HK := (BI.bigSep_exists_pi Finset.univ (fun (ck : Dev nD × Role) (κ : ℕ) => (cellInv ER (gatherRd m ρ) κ (kcell ck) : sProp 𝕄))) $$ HI
  icases HK with ⟨%K, #HI⟩
  ihave Htk := (toks_around (F := F)) $$ Htok
  iapply (persist_each (R := records m ρ K) fun c _ => G'_intro m ρ K c)
  isplitr
  · unfold records; isplitl; · iexact HI
    iexact HR
  · iapply ((Entails.of_eq (bigSep_sep' Finset.univ (fun c : Dev nD => bigSep Finset.univ fun k : Role => (atPos ER (kcell (c, k)) 0 ∅ 0 : sProp 𝕄))
        (fun c => iprop(sigToks c ∗ sendToks c false ∗ sendToks c true))).symm).trans (bigSep_mono fun c _ => linear_intro c))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

theorem kcell_ne {a b : Dev nD × Role} (h : a.2 ≠ b.2) : kcell a ≠ kcell b := fun e => h (congrArg Prod.snd (kcell_injective e))
theorem owedS_other (d : Dev nD) (g : GSem nD τ sig) (hg : ∀ b p, g ≠ recvCell b p d) : ∀ n, owedS d n g () = 0
  | 0 => rfl
  | n + 1 => by
    rw [owedS, Pi.add_apply, Finsupp.add_apply, Pi.add_apply, Finsupp.add_apply, owedS_other d g hg n, tallyAt_ne_cell (hg true _), tallyAt_ne_cell (hg false _)]
    rfl
/-- What `d` owes a receive cell: a block's credit for each of its copies there. -/
theorem owedS_recv (d c : Dev nD) (b : Bool) : ∀ n, owedS d n (recvCell b c d) () = ∑ i ∈ Finset.range n, if c = peer (sh i) d then N b else 0
  | 0 => rfl
  | n + 1 => by
    rw [owedS, Pi.add_apply, Finsupp.add_apply, Pi.add_apply, Finsupp.add_apply, owedS_recv d c b n, Finset.sum_range_succ, tallyAt_apply, tallyAt_apply]
    have key : ∀ b', (if recvCell b c d = recvCell b' (peer (sh n) d) d ∧ () = () then N b' else 0) = if b' = b then (if c = peer (sh n) d then N b else 0) else 0 := by
      intro b'
      by_cases hb : b' = b
      · subst hb
        rw [if_pos rfl]
        by_cases hc : c = peer (sh n) d
        · subst hc; rw [if_pos ⟨rfl, rfl⟩, if_pos rfl]
        · rw [if_neg fun h => hc (congrArg Prod.fst (kcell_injective h.1)), if_neg hc]
      · rw [if_neg hb, if_neg fun h => kcell_ne (a := (c, some (b, .inr d))) (b := (peer (sh n) d, some (b', .inr d))) (fun e => hb (congrArg Prod.fst (Option.some.inj e)).symm) h.1]
    rw [key, key]
    cases b <;> simp
theorem owedB_recv (d : Dev nD) (b : Bool) (p j : Dev nD) : ∀ n, owedB d n (recvCell b p j) () = owedS d 7 (recvCell b p j) ()
  | 0 => rfl
  | n + 1 => by
    rw [owedB, Pi.add_apply, Finsupp.add_apply, owedB_recv d b p j n, tallyAt_ne_cell (kcell_ne (b := (peer (sh n) d, none)) fun e => by cases e)]; rfl
/-- What `d` owes a barrier cell: one for each of its signals there. -/
theorem owedB_bar (d c : Dev nD) : ∀ n, owedB d n (barCell c) () = ∑ i ∈ Finset.range n, if c = peer (sh i) d then 1 else 0
  | 0 => owedS_other d _ (fun b p => kcell_ne (a := (c, none)) (b := (p, some (b, .inr d))) fun e => by cases e) 7
  | n + 1 => by
    rw [owedB, Pi.add_apply, Finsupp.add_apply, owedB_bar d c n, Finset.sum_range_succ, tallyAt_apply]
    congr 1
    by_cases hc : c = peer (sh n) d
    · subst hc; rw [if_pos ⟨rfl, rfl⟩, if_pos rfl]
    · rw [if_neg fun h => hc (congrArg Prod.fst (kcell_injective h.1)), if_neg hc]

theorem sum_bar (c : Dev nD) : (∑ d : Dev nD, ∑ i ∈ Finset.range 7, if c = peer (sh i) d then 1 else 0) = 7 := by revert c; decide
theorem sum_recv (c j : Dev nD) : (∑ i ∈ Finset.range 7, if c = peer (sh i) j then 1 else 0) = if j = c then 0 else 1 := by revert c j; decide

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same]
  exact (Finset.sum_congr rfl fun d _ => owedB_bar d c 7).trans (sum_bar c)
theorem launch_recv (b : Bool) (c j : Dev nD) (h : j ≠ c) :
    tallyOn (recvCell b c j) (launchCredit (Pipeline.owing O₀) 0 (recvCell b c j)) = (tallyAt (recvCell b c j) () (N b) : CellTallies nD τ sig Unit) := by
  unfold tallyAt; refine congrArg _ (Finsupp.ext fun u => ?_); cases u
  rw [Pipeline.launchCredit_owing, Finsupp.single_eq_same]
  refine (Finset.sum_eq_single j (fun d _ hd => (owedB_recv d b c j 7).trans (owedS_other d _ (fun b' p e =>
      hd (by have := congrArg Prod.snd (kcell_injective (a₁ := (c, some (b, .inr j))) (a₂ := (p, some (b', .inr d))) e)
             exact (Sum.inr.inj (congrArg Prod.snd (Option.some.inj this))).symm)) 7)) (fun h => absurd (Finset.mem_univ _) h)).trans ?_
  show owedB j 7 (recvCell b c j) () = _
  rw [owedB_recv, owedS_recv]
  have := congrArg (· * N b) (sum_recv c j)
  simp only [Finset.sum_mul, ite_mul, one_mul, zero_mul] at this
  rw [this, if_neg h]

theorem drop (P : sProp 𝕄) : P ⊢ iprop(emp) := by iintro -; iempintro
theorem recv_cred (b : Bool) (c : Dev nD) (j : Fin 8) : (cred (tallyOn (recvCell b c j) (launchCredit (Pipeline.owing O₀) 0 (recvCell b c j))) : sProp 𝕄)
    ⊢ if j = c then iprop(emp) else cred (tallyAt (recvCell b c j) () (N b)) := by
  by_cases h : j = c
  · rw [if_pos h]; exact drop _
  · rw [if_neg h, launch_recv b c j h]
theorem creds (c : Dev nD) :
    (Pipeline.launchCred O₀ c : sProp 𝕄) ⊢ iprop(cred (tallyAt (barCell c) () 7) ∗ recvCreds c false ∗ recvCreds c true) := by
  have hr (b : Bool) : (bigSep Finset.univ fun j : Fin 8 => (cred (tallyOn (recvCell b c j) (launchCredit (Pipeline.owing O₀) 0 (recvCell b c j))) : sProp 𝕄)) ⊢ recvCreds c b :=
    bigSep_mono fun j _ => recv_cred b c j
  unfold Pipeline.launchCred
  refine (bigSep_subset (t := Finset.univ.map ⟨csem, csem_injective⟩) (Finset.subset_univ _)).trans ?_
  rw [bigSep_map, bigSep_role]
  show iprop(cred (tallyOn (barCell c) (launchCredit (Pipeline.owing O₀) 0 (barCell c))) ∗ _) ⊢ _
  rw [launch_bar, bigSep_own]
  iintro ⟨HB, ⟨-, HQ⟩, ⟨-, HW⟩⟩
  isplitl [HB]; · iexact HB
  isplitl [HQ]; · iapply (hr false); iexact HQ
  iapply (hr true); iexact HW

/-! ### The launch theorem's other premises -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold G'
  iintro ⟨-, Hlev, Hcr, -, ⟨%K, HR, HG⟩⟩
  ihave Hc := (creds (F := F) c) $$ Hcr
  imodintro
  unfold start
  isplitl
  · isplitl [HG HR Hlev]
    · iexists K
      isplitl [HR Hlev]
      · unfold ctx records
        isplitl [HR]; · iexact HR
        iexact Hlev
      iexact HG
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, unscopedSems0_bar]
  unfold Φ₁ zeros Pipeline.ownSems0
  rw [bigSep_own]
  iintro ⟨Hr, Hz, HzS⟩
  isplitl [Hz]; · iexact Hz
  isplitl [HzS]; · iexact HzS
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

/-- Each window's array holds its computed contents on each device. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution on the eight devices terminates, and every final
    state has each array at its computed contents and every counter at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_gather m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- An input's array after the run holds what it held. -/
theorem finalA_in (c : Dev nD) (w : Fin cfg0.W) (hw : (cfg0.win w).isOut = false) : finalA m ρ c w = (s₀ m ρ).mem ((cfg0.win w).arr.view.loc (c : Thread nD τ)) :=
  (dats (F := F) m ρ 0 c).arrAt_in w hw _

end Cert.KernelIdeal.Gather

end
-- ==== Proof.Final.lean ====
/-
The run's final state: the arguments as they were, every counter at zero, the result as computed.
-/
module

public import proofs.«01_k».proof.Proof.Launch

@[expose] public section

noncomputable section

namespace Cert.KernelIdeal.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The program's claim on its arguments -/

/-- Every weakly fair execution terminates; every final state has the arguments as they were, the result at the
    output window's computed contents and every counter at zero. -/
theorem run_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v1) = finalA m ρ c (5 : Fin 6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c =>
    ⟨h.1 c (5 : Fin 6), (h.1 c (0 : Fin 6)).trans (finalA_in m ρ c (0 : Fin 6) rfl), (h.1 c (1 : Fin 6)).trans (finalA_in m ρ c (1 : Fin 6) rfl),
      (h.1 c (2 : Fin 6)).trans (finalA_in m ρ c (2 : Fin 6) rfl), (h.1 c (3 : Fin 6)).trans (finalA_in m ρ c (3 : Fin 6) rfl),
      (h.1 c (4 : Fin 6)).trans (finalA_in m ρ c (4 : Fin 6) rfl)⟩, h.2⟩) (run_main m ρ)

end Cert.KernelIdeal.Gather

end
-- ==== Proof.Attend.lean ====
/-
Masked attention over 128 keys of 64 numbers, on extended reals: the mathematics both programs compute.
-/
module

public import Idealize.ShloMosaic.Lib.Pointwise

@[expose] public section

noncomputable section

namespace Cert.Attend

open Idealize.ShloMosaic

/-- Whether two blocks meet: they are equal, or equal modulo 4. -/
def meets (a b : ℕ) : Bool := a == b || b % 4 == a % 4
/-- Whether row `i` attends to key `j`: their blocks of 64 meet. -/
def sees (i j : ℕ) : Bool := meets (i / 64) (j / 64)
/-- Whether row `i` attends to any of the 128 keys. -/
def keeps (i : ℕ) : Bool := decide (∃ j : Fin 128, sees i j.val)

/-- The largest of a row of scores. -/
def top (s : Fin 128 → EReal) : EReal := Finset.univ.fold max (Ideal.ofBits .f32 0xFF800000#32) s
/-- The weight of key `j` in a row of scores; nothing where the row attends to no key. -/
def weight (kp : BitVec 1) (s : Fin 128 → EReal) (j : Fin 128) : EReal :=
  Scalar.select kp (Ideal.div (Ideal.exp (s j - top s)) (∑ k : Fin 128, Ideal.exp (s k - top s))) 0
/-- The score of a query against a key: the scaled product, or a large negative number where the mask hides the key. -/
def score (mk : BitVec 1) (q k : Fin 64 → EReal) : EReal :=
  Scalar.select mk ((∑ d : Fin 64, q d * k d) * Ideal.ofBits .f32 0x3E000000#32) (Ideal.ofBits .f32 0xCE6E6B28#32)
/-- One query's attention: the values' `d`-th numbers under its weights. -/
def attend (mk : Fin 128 → BitVec 1) (kp : BitVec 1) (q : Fin 64 → EReal) (K V : Fin 128 → Fin 64 → EReal) (d : Fin 64) : EReal :=
  ∑ j : Fin 128, weight kp (fun j => score (mk j) q (K j)) j * V j d

end Cert.Attend

end
-- ==== Proof.Heads.lean ====
/-
What the kernel computes, at exact arithmetic, number by number.
-/
module

public import proofs.«01_k».proof.Proof.Value
public import proofs.«01_k».proof.Proof.Attend

@[expose] public section

noncomputable section

namespace Cert.KernelIdeal.Gather

open Cert.KernelIdeal Cert.KernelIdeal.Gen Cert.Attend
open Idealize.ShloMosaic

set_option maxRecDepth 16384 in
/-- One head of the kernel is the attention of each of its rows. -/
theorem headC_apply (mk : IVec S128x128 1) (kp : IVec S128x1 1) (q : FVec Ideal S128x64 .bf16) (kh vh : Vec Ideal S1x128x1x64 .bf16) (i : Fin 128) (d : Fin 64) :
    headC mk kp q kh vh (ix2 i d) = attend (fun j => mk (ix2 i j)) (kp (ix2 i 0)) (fun d => q (ix2 i d)) (fun j d => kh (ix4 0 j 0 d)) (fun j d => vh (ix4 0 j 0 d)) d := by
  pointwise [headC, attend, weight, score, top]

/-- The queries of a slot. -/
theorem queriesC_apply (r : FVec Ideal S1x128x512 .bf16) (wq : Vec Ideal S1x512x256 .bf16) (i : Fin 128) (k : Fin 256) :
    queriesC r wq (ix2 i k) = ∑ e : Fin 512, r (ix3 0 i e) * wq (ix3 0 e k) := by
  pointwise [queriesC]

/-- The head and the number within the head of one of a slot's 256 columns, and back. -/
def hd (k : Fin 256) : Fin 4 := ⟨k.val / 64, by omega⟩
def wi (k : Fin 256) : Fin 64 := ⟨k.val % 64, by omega⟩
def at4 (t : Fin 4) (d : Fin 64) : Fin 256 := ⟨64 * t.val + d.val, by omega⟩

/-- One head of a slot, its queries cut from the slot's at column `o`. -/
theorem headC_cut (mk : IVec S128x128 1) (kp : IVec S128x1 1) (r : FVec Ideal S1x128x512 .bf16) (wq : Vec Ideal S1x512x256 .bf16)
    (kh vh : Vec Ideal S1x128x1x64 .bf16) (i : Fin 128) (d : Fin 64) (t : Fin 4) (h : S128x256.Slices ![0, 64 * t.val] S128x64) :
    headC mk kp (extractStridedSlice S128x64 ![0, 64 * t.val] (queriesC r wq) h) kh vh (ix2 i d)
      = attend (fun j => mk (ix2 i j)) (kp (ix2 i 0)) (fun d => ∑ e : Fin 512, r (ix3 0 i e) * wq (ix3 0 e (at4 t d)))
        (fun j d => kh (ix4 0 j 0 d)) (fun j d => vh (ix4 0 j 0 d)) d := by
  rw [headC_apply]
  congr 1
  funext d
  rw [← queriesC_apply]
  pointwise
  rfl

set_option maxRecDepth 16384 in
/-- A slot adds, over its 256 columns, the attention's numbers times the rows of `wo`. -/
theorem stepC_apply (mk : IVec S128x128 1) (kp : IVec S128x1 1) (r : FVec Ideal S1x128x512 .bf16) (wq : Vec Ideal S1x512x256 .bf16)
    (wo : Vec Ideal S1x256x512 .bf16) (k v : Fin 4 → Vec Ideal S1x128x1x64 .bf16) (acc : FVec Ideal S128x512 .f32) (i : Fin 128) (n : Fin 512) :
    stepC mk kp r wq wo k v acc (ix2 i n) = acc (ix2 i n) + ∑ p : Fin 256,
      attend (fun j => mk (ix2 i j)) (kp (ix2 i 0)) (fun d => ∑ e : Fin 512, r (ix3 0 i e) * wq (ix3 0 e (at4 (hd p) d)))
        (fun j d => k (hd p) (ix4 0 j 0 d)) (fun j d => v (hd p) (ix4 0 j 0 d)) (wi p) * wo (ix3 0 p n) := by
  pointwise [stepC]
  refine congrArg _ (Finset.sum_congr rfl fun p _ => congrArg (· * _) ?_)
  have hlt := p.isLt
  split
  · rename_i h
    rw [show hd p = 0 from Fin.ext (Nat.div_eq_of_lt h), show wi p = ⟨p.val, h⟩ from Fin.ext (Nat.mod_eq_of_lt h)]
    exact headC_cut mk kp r wq (k 0) (v 0) i _ 0 _
  split
  · rename_i h
    rw [show hd p = 1 from Fin.ext (show p.val / 64 = 1 by omega), show wi p = ⟨p.val - 64, h⟩ from Fin.ext (show p.val % 64 = p.val - 64 by omega)]
    exact headC_cut mk kp r wq (k 1) (v 1) i _ 1 _
  split
  · rename_i h
    rw [show hd p = 2 from Fin.ext (show p.val / 64 = 2 by omega), show wi p = ⟨p.val - 64 - 64, h⟩ from Fin.ext (show p.val % 64 = p.val - 64 - 64 by omega)]
    exact headC_cut mk kp r wq (k 2) (v 2) i _ 2 _
  · rw [show hd p = 3 from Fin.ext (show p.val / 64 = 3 by omega), show wi p = ⟨p.val - 64 - 64 - 64, by omega⟩ from Fin.ext (show p.val % 64 = p.val - 64 - 64 - 64 by omega)]
    exact headC_cut mk kp r wq (k 3) (v 3) i _ 3 _

end Cert.KernelIdeal.Gather

end
-- ==== Proof.Masks.lean ====
/-
Which keys a row of a device attends to, as the kernel finds it from the row's and the keys' numbers.
-/
module

public import proofs.«01_k».proof.Proof.Value
public import proofs.«01_k».proof.Proof.Attend

@[expose] public section

noncomputable section

namespace Cert.KernelIdeal.Gather

open Cert.KernelIdeal Cert.KernelIdeal.Gen Cert.Attend
open Idealize.ShloMosaic

/-- The block of 64 in which a number lies, as the kernel divides: rounding down. -/
def blockWord (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32)
    (IntOp.divsi ArithUnit.vector x 64#32)

theorem blockWord_eq (i : Fin 128) : blockWord (BitVec.ofNat 32 i.val) = BitVec.ofNat 32 (i.val / 64) := by
  revert i
  decide +kernel

theorem me_twice (c : Dev nD) : Scalar.muli (me c) 2#32 = BitVec.ofNat 32 (2 * c.val) := by
  revert c
  decide +kernel

/-- Two words of blocks meet as their numbers do. -/
theorem meets_word (c : Dev nD) (a b : Fin 2) :
    IntOp.ori (IntOp.cmpi CmpIPredicate.eq (IntOp.addi (BitVec.ofNat 32 (2 * c.val)) (BitVec.ofNat 32 a.val)) (BitVec.ofNat 32 b.val))
      (IntOp.cmpi CmpIPredicate.eq (IntOp.remsi ArithUnit.vector (BitVec.ofNat 32 b.val) 4#32)
        (IntOp.remsi ArithUnit.vector (IntOp.addi (BitVec.ofNat 32 (2 * c.val)) (BitVec.ofNat 32 a.val)) 4#32))
      = BitVec.ofBool (meets (2 * c.val + a.val) b.val) := by
  revert c a b
  decide +kernel

set_option maxRecDepth 16384 in
/-- The kernel's mask of device `c`: its row `i` is row `128 c + i` of the whole. -/
theorem maskC_apply (c : Dev nD) (i j : Fin 128) : maskC c (ix2 i j) = BitVec.ofBool (sees (128 * c.val + i.val) j.val) := by
  have hw : maskC c (ix2 i j) = IntOp.ori
      (IntOp.cmpi CmpIPredicate.eq (IntOp.addi (Scalar.muli (me c) 2#32) (blockWord (BitVec.ofNat 32 i.val))) (blockWord (BitVec.ofNat 32 j.val)))
      (IntOp.cmpi CmpIPredicate.eq (IntOp.remsi ArithUnit.vector (blockWord (BitVec.ofNat 32 j.val)) 4#32)
        (IntOp.remsi ArithUnit.vector (IntOp.addi (Scalar.muli (me c) 2#32) (blockWord (BitVec.ofNat 32 i.val))) 4#32)) := by
    pointwise [maskC, k0_pay5, k0_pay4, k0_pay3]
    rfl
  have hi := i.isLt
  have hj := j.isLt
  rw [hw, blockWord_eq, blockWord_eq, me_twice,
    meets_word c ⟨i.val / 64, by omega⟩ ⟨j.val / 64, by omega⟩, sees, show (128 * c.val + i.val) / 64 = 2 * c.val + i.val / 64 by omega]

/-- The largest of ones and zeros is positive when there is a one. -/
theorem keepC_apply (c : Dev nD) (i : Fin 128) : keepC (F := Ideal) c (ix2 i 0) = BitVec.ofBool (keeps (128 * c.val + i.val)) := by
  have hw : keepC (F := Ideal) c (ix2 i 0) = BitVec.ofBool (decide (0 < Finset.fold max (Ideal.ofBits FTy.f32 0xFF800000#32)
      (fun x : Fin 128 => Scalar.select (maskC c (ix2 i x)) (1 : EReal) 0) Finset.univ)) := by
    pointwise [keepC, k0_pay6]
    rfl
  rw [hw, keeps]
  refine congrArg BitVec.ofBool (decide_eq_decide.mpr ?_)
  rw [Finset.lt_fold_max]
  have hb : ¬ (0 : EReal) < Ideal.ofBits FTy.f32 0xFF800000#32 := by
    rw [show Ideal.ofBits FTy.f32 0xFF800000#32 = (⊥ : EReal) by rfl]
    exact not_lt_bot
  constructor
  · rintro (h | ⟨j, -, h⟩)
    · exact absurd h hb
    · refine ⟨j, ?_⟩
      rw [maskC_apply] at h
      cases hs : sees (128 * c.val + i.val) j.val
      · rw [hs] at h
        exact absurd h (lt_irrefl (0 : EReal))
      · rfl
  · rintro ⟨j, h⟩
    refine .inr ⟨j, Finset.mem_univ _, ?_⟩
    rw [maskC_apply, h]
    exact zero_lt_one

end Cert.KernelIdeal.Gather

end
-- ==== Proof.Device.lean ====
/-
What device `c` leaves in its result, number by number, of what the devices' arguments hold.
-/
module

public import proofs.«01_k».proof.Proof.Heads
public import proofs.«01_k».proof.Proof.Masks
public import proofs.«01_k».proof.Proof.Final
public import Idealize.ShloMosaic.Lib.Pipeline.ValueKit.Geometry
public import Idealize.ShloMosaic.Lib.LayoutAt

@[expose] public section

noncomputable section

namespace Cert.KernelIdeal.Gather

open Cert.KernelIdeal Cert.KernelIdeal.Gen Cert.Attend
open Idealize.ShloMosaic

variable (m : (ℓ : Loc nD τ sig) → Buf (Elt Ideal) ℓ) (ρ : Dev nD → PrngReg)

/-- The arguments of device `c`. -/
abbrev argX (c : Dev nD) : FVec Ideal S2x128x512 .bf16 := m ((c.tc : Thread nD τ).loc main_arg0)
abbrev argQ (c : Dev nD) : FVec Ideal S512x256 .bf16 := m ((c.tc : Thread nD τ).loc main_arg1)
abbrev argK (c : Dev nD) : FVec Ideal S2x128x32x64 .bf16 := m ((c.tc : Thread nD τ).loc main_arg2)
abbrev argV (c : Dev nD) : FVec Ideal S2x128x32x64 .bf16 := m ((c.tc : Thread nD τ).loc main_arg3)
abbrev argO (c : Dev nD) : FVec Ideal S256x512 .bf16 := m ((c.tc : Thread nD τ).loc main_arg4)

/-- What the pipeline stages of an argument is the argument. -/
theorem xB_eq (c : Dev nD) : xB m ρ c = argX m c := by
  funext i
  refine congrArg (argX m c) (Layout.idx_ext fun a => ?_)
  exact Pipeline.Window.rect_emb_val_of_index_zero win0_0 (0 : Fin 1) a rfl i
theorem qB_eq (c : Dev nD) : qB m ρ c = argQ m c := by
  funext i
  refine congrArg (argQ m c) (Layout.idx_ext fun a => ?_)
  exact Pipeline.Window.rect_emb_val_of_index_zero win0_1 (0 : Fin 1) a rfl i
theorem kB_eq (c : Dev nD) : kB m ρ c = argK m c := by
  funext i
  refine congrArg (argK m c) (Layout.idx_ext fun a => ?_)
  exact Pipeline.Window.rect_emb_val_of_index_zero win0_2 (0 : Fin 1) a rfl i
theorem vB_eq (c : Dev nD) : vB m ρ c = argV m c := by
  funext i
  refine congrArg (argV m c) (Layout.idx_ext fun a => ?_)
  exact Pipeline.Window.rect_emb_val_of_index_zero win0_3 (0 : Fin 1) a rfl i
theorem oB_eq (c : Dev nD) : oB m ρ c = argO m c := by
  funext i
  refine congrArg (argO m c) (Layout.idx_ext fun a => ?_)
  exact Pipeline.Window.rect_emb_val_of_index_zero win0_4 (0 : Fin 1) a rfl i

/-- The loads of the middle, number by number. -/
theorem ldQ_apply (j : Fin 8) (e : Fin 512) (k : Fin 256) : ldQ m ρ j (ix3 0 e k) = argQ m (j : Dev nD) (ix2 e k) := by
  have h : ldQ m ρ j (ix3 0 e k) = k0_pay1 (qB m ρ (j : Dev nD)) (ix3 0 e k) := by
    refine (congrArg (WQ m ρ) (Layout.idx_ext (j := ix3 j e k) fun a => ?_)).trans
      (congrArg (k0_pay1 (qB m ρ (j : Dev nD))) (Layout.idx_ext fun a => ?_))
    · fin_cases a
      · show j.val + 1 * 0 = j.val
        omega
      · show 0 + 1 * e.val = e.val
        omega
      · show 0 + 1 * k.val = k.val
        omega
    · fin_cases a <;> rfl
  rw [h, qB_eq]
  pointwise [k0_pay1]
theorem ldO_apply (j : Fin 8) (p : Fin 256) (n : Fin 512) : ldO m ρ j (ix3 0 p n) = argO m (j : Dev nD) (ix2 p n) := by
  have h : ldO m ρ j (ix3 0 p n) = k0_pay2 (oB m ρ (j : Dev nD)) (ix3 0 p n) := by
    refine (congrArg (WO m ρ) (Layout.idx_ext (j := ix3 j p n) fun a => ?_)).trans
      (congrArg (k0_pay2 (oB m ρ (j : Dev nD))) (Layout.idx_ext fun a => ?_))
    · fin_cases a
      · show j.val + 1 * 0 = j.val
        omega
      · show 0 + 1 * p.val = p.val
        omega
      · show 0 + 1 * n.val = n.val
        omega
    · fin_cases a <;> rfl
  rw [h, oB_eq]
  pointwise [k0_pay2]
theorem ldK_apply (c : Dev nD) (b : Fin 2) (h : Fin 32) (j : Fin 128) (d : Fin 64) : ldK m ρ c b h (ix4 0 j 0 d) = argK m c (ix4 b j h d) := by
  rw [ldK, kB_eq]
  refine congrArg (argK m c) (Layout.idx_ext fun a => ?_)
  fin_cases a
  · show b.val + 1 * 0 = b.val
    omega
  · show 0 + 1 * j.val = j.val
    omega
  · show h.val + 1 * 0 = h.val
    omega
  · show 0 + 1 * d.val = d.val
    omega
theorem ldV_apply (c : Dev nD) (b : Fin 2) (h : Fin 32) (j : Fin 128) (d : Fin 64) : ldV m ρ c b h (ix4 0 j 0 d) = argV m c (ix4 b j h d) := by
  rw [ldV, vB_eq]
  refine congrArg (argV m c) (Layout.idx_ext fun a => ?_)
  fin_cases a
  · show b.val + 1 * 0 = b.val
    omega
  · show 0 + 1 * j.val = j.val
    omega
  · show h.val + 1 * 0 = h.val
    omega
  · show 0 + 1 * d.val = d.val
    omega
theorem rowsC_apply (x : Vec Ideal S2x128x512 .bf16) (b : Fin 2) (i : Fin 128) (e : Fin 512) : rowsC x b (ix3 0 i e) = x (ix3 b i e) := by
  fin_cases b
  · pointwise [rowsC, k0_pay7]
  · pointwise [rowsC, k0_pay7]

/-- What slot `j` adds to row `i`, column `n` of batch `b` on device `c`. -/
def slotSum (c : Dev nD) (b : Fin 2) (i : Fin 128) (n : Fin 512) (j : Fin 8) : EReal := ∑ p : Fin 256,
  attend (fun k => BitVec.ofBool (sees (128 * c.val + i.val) k.val)) (BitVec.ofBool (keeps (128 * c.val + i.val)))
    (fun d => ∑ e : Fin 512, argX m c (ix3 b i e) * argQ m (j : Dev nD) (ix2 e (at4 (hd p) d)))
    (fun k d => argK m c (ix4 b k (headOf j (hd p)) d)) (fun k d => argV m c (ix4 b k (headOf j (hd p)) d)) (wi p)
    * argO m (j : Dev nD) (ix2 p n)

theorem stepD_apply (c : Dev nD) (b : Fin 2) (j : Fin 8) (acc : FVec Ideal S128x512 .f32) (i : Fin 128) (n : Fin 512) :
    stepD m ρ c b j acc (ix2 i n) = acc (ix2 i n) + slotSum m c b i n j := by
  rw [stepD, stepC_apply, slotSum]
  simp only [maskC_apply, keepC_apply, rowsC_apply, xB_eq, ldQ_apply, ldO_apply, ldK_apply, ldV_apply]

theorem accD_apply (c : Dev nD) (b : Fin 2) (i : Fin 128) (n : Fin 512) : ∀ (k : ℕ) (h : k ≤ 8),
    accD m ρ c b k h (ix2 i n) = ∑ j : Fin k, slotSum m c b i n (j.castLE h)
  | 0, _ => by
    rw [accD]
    pointwise
    exact (Fin.sum_univ_zero _).symm
  | k + 1, h => by
    rw [accD, stepD_apply, accD_apply c b i n k (Nat.le_of_succ_le h), Fin.sum_univ_castSucc]
    rfl

/-- Each number of device `c`'s result. -/
theorem outB_apply (c : Dev nD) (b : Fin 2) (i : Fin 128) (n : Fin 512) : outB m ρ c (ix3 b i n) = ∑ j : Fin 8, slotSum m c b i n j := by
  have h : outB m ρ c (ix3 b i n) = accD m ρ c b 8 le_rfl (ix2 i n) := by
    fin_cases b
    · show k0_pay186 (accD m ρ c 0 8 le_rfl) _ = accD m ρ c 0 8 le_rfl _
      pointwise [k0_pay186]
    · show k0_pay187 (accD m ρ c 1 8 le_rfl) _ = accD m ρ c 1 8 le_rfl _
      pointwise [k0_pay187]
  rw [h, accD_apply]
  rfl

theorem whole_out : win0_5.WholeAt (0 : Fin 1) :=
  ⟨by decide +kernel, fun t _ => Subsingleton.elim (α := Fin 1) t 0, fun a => ⟨rfl, rfl⟩⟩

/-- The array of the result holds it after the run. -/
theorem finalA_eq (c : Dev nD) : finalA m ρ c (5 : Fin 6) = outB m ρ c := by
  rw [finalA]
  refine (dats m ρ 0 c).arrAt_eq_of_after_last (5 : Fin 6) (0 : Fin 1) whole_out _ fun j => ?_
  rfl

end Cert.KernelIdeal.Gather

end
-- ==== Proof.WholeMask.lean ====
/-
Which keys a row attends to, as the reference finds it over all the rows at once.
-/
module

public import proofs.«01_k».proof.Proof.Attend
public import proofs.«01_k».proof.Proof.Gen.ReferenceIdeal.Run
public import Idealize.ShloMosaic.Lib.Routing.OpsOrder

@[expose] public section

noncomputable section

namespace Cert.ReferenceIdeal.Whole

open Cert.ReferenceIdeal Cert.ReferenceIdeal.Gen Cert.Attend
open Idealize.ShloMosaic

/-- The block of 64 of each row, rounding down. -/
def rowBlock : IVec S1024 32 :=
  let n : IVec S1024 32 := broadcastInDim S1024 ![] bcast_S_S1024 (id (constantI S_ 32 64#32))
  select (andi (cmpi .ne (signi (iotaInDim S1024 32 0)) (broadcastInDim S1024 ![] bcast_S_S1024 (signi (id (constantI S_ 32 64#32)))))
      (cmpi .ne (Host.remsi (iotaInDim S1024 32 0) n) (broadcastInDim S1024 ![] bcast_S_S1024 (constantI S_ 32 0#32))))
    (subi (Host.divsi (iotaInDim S1024 32 0) n) (broadcastInDim S1024 ![] bcast_S_S1024 (constantI S_ 32 1#32)))
    (Host.divsi (iotaInDim S1024 32 0) n)
/-- The block of 64 of each key. -/
def keyBlock : IVec S128 32 :=
  let n : IVec S128 32 := broadcastInDim S128 ![] bcast_S_S128 (id (constantI S_ 32 64#32))
  select (andi (cmpi .ne (signi (iotaInDim S128 32 0)) (broadcastInDim S128 ![] bcast_S_S128 (signi (id (constantI S_ 32 64#32)))))
      (cmpi .ne (Host.remsi (iotaInDim S128 32 0) n) (broadcastInDim S128 ![] bcast_S_S128 (constantI S_ 32 0#32))))
    (subi (Host.divsi (iotaInDim S128 32 0) n) (broadcastInDim S128 ![] bcast_S_S128 (constantI S_ 32 1#32)))
    (Host.divsi (iotaInDim S128 32 0) n)
/-- The blocks as a column and as a row. -/
def rowCol : IVec S1024x1 32 := broadcastInDim S1024x1 ![0] bcast_S1024_S1024x1_0 rowBlock
def keyRow : IVec S1x128 32 := broadcastInDim S1x128 ![1] bcast_S128_S1x128_1 keyBlock
/-- Four, guarded against a division by zero. -/
def four : IVec S_ 32 := select (cmpi .eq (id (constantI S_ 32 4#32)) (constantI S_ 32 0#32)) (constantI S_ 32 1#32) (id (constantI S_ 32 4#32))
def fourNeg : IVec S_ 1 := cmpi .slt four (constantI S_ 32 0#32)
/-- The key's block modulo 4. -/
def keyMod : IVec S1x128 32 :=
  let z : IVec S1x128 32 := broadcastInDim S1x128 ![] bcast_S_S1x128 (constantI S_ 32 0#32)
  let r : IVec S1x128 32 := Host.remsi keyRow (broadcastInDim S1x128 ![] bcast_S_S1x128 four)
  select (andi (cmpi .ne (cmpi .slt r z) (broadcastInDim S1x128 ![] bcast_S_S1x128 fourNeg)) (cmpi .ne r z))
    (addi r (broadcastInDim S1x128 ![] bcast_S_S1x128 four)) r
/-- The row's block modulo 4. -/
def rowMod : IVec S1024x1 32 :=
  let z : IVec S1024x1 32 := broadcastInDim S1024x1 ![] bcast_S_S1024x1 (constantI S_ 32 0#32)
  let r : IVec S1024x1 32 := Host.remsi rowCol (broadcastInDim S1024x1 ![] bcast_S_S1024x1 four)
  select (andi (cmpi .ne (cmpi .slt r z) (broadcastInDim S1024x1 ![] bcast_S_S1024x1 fourNeg)) (cmpi .ne r z))
    (addi r (broadcastInDim S1024x1 ![] bcast_S_S1024x1 four)) r
/-- Which keys a row attends to, and whether it attends to any. -/
def mask : IVec S1024x128 1 :=
  ori (cmpi .eq (broadcastInDim S1024x128 ![0, 1] bcast_S1024x1_S1024x128_0_1 rowCol) (broadcastInDim S1024x128 ![0, 1] bcast_S1x128_S1024x128_0_1 keyRow))
    (cmpi .eq (broadcastInDim S1024x128 ![0, 1] bcast_S1x128_S1024x128_0_1 keyMod) (broadcastInDim S1024x128 ![0, 1] bcast_S1024x1_S1024x128_0_1 rowMod))
def keep : IVec S1024 1 := Host.reduce IntOp.ori mask (constantI S_ 1 0#1) reducesTo_S1024x128_S1024_d1 h_S_

theorem rowBlock_apply (i : Fin 1024) : rowBlock (ix1 i) = BitVec.ofNat 32 (i.val / 64) := by
  pointwise [rowBlock]
  revert i
  decide +kernel

theorem keyBlock_apply (j : Fin 128) : keyBlock (ix1 j) = BitVec.ofNat 32 (j.val / 64) := by
  pointwise [keyBlock]
  revert j
  decide +kernel

theorem rowCol_apply (i : Fin 1024) : rowCol (ix2 i 0) = BitVec.ofNat 32 (i.val / 64) := by
  rw [← rowBlock_apply]
  pointwise [rowCol]

theorem keyRow_apply (j : Fin 128) : keyRow (ix2 0 j) = BitVec.ofNat 32 (j.val / 64) := by
  rw [← keyBlock_apply]
  pointwise [keyRow]

theorem rowMod_apply (i : Fin 1024) : rowMod (ix2 i 0) = BitVec.ofNat 32 (i.val / 64 % 4) := by
  pointwise [rowMod]
  rw [rowCol_apply]
  revert i
  decide +kernel

theorem keyMod_apply (j : Fin 128) : keyMod (ix2 0 j) = BitVec.ofNat 32 (j.val / 64 % 4) := by
  pointwise [keyMod]
  rw [keyRow_apply]
  revert j
  decide +kernel

/-- Two words of blocks meet as their numbers do. -/
theorem meets_word (a : Fin 16) (b : Fin 2) :
    IntOp.ori (IntOp.cmpi CmpIPredicate.eq (BitVec.ofNat 32 a.val) (BitVec.ofNat 32 b.val))
      (IntOp.cmpi CmpIPredicate.eq (BitVec.ofNat 32 (b.val % 4)) (BitVec.ofNat 32 (a.val % 4))) = BitVec.ofBool (meets a.val b.val) := by
  revert a b
  decide +kernel

/-- The reference's mask. -/
theorem mask_apply (i : Fin 1024) (j : Fin 128) : mask (ix2 i j) = BitVec.ofBool (sees i.val j.val) := by
  have hi := i.isLt
  have hj := j.isLt
  pointwise [mask]
  rw [rowCol_apply, keyRow_apply, rowMod_apply, keyMod_apply]
  exact meets_word ⟨i.val / 64, by omega⟩ ⟨j.val / 64, by omega⟩

/-- The reference's «any» over a row of the mask. -/
theorem keep_apply (i : Fin 1024) : keep (ix1 i) = BitVec.ofBool (keeps i.val) := by
  have hw : keep (ix1 i) = Finset.fold IntOp.ori 0#1 (fun j : Fin 128 => mask (ix2 i j)) Finset.univ := by
    pointwise [keep]
  have hk : keep (ix1 i) = 1#1 ↔ keeps i.val = true := by
    rw [hw, Routing.fold_ori, keeps, decide_eq_true_iff]
    refine exists_congr fun j => ?_
    rw [mask_apply]
    cases sees i.val j.val
    · exact ⟨fun h => absurd h.2 (by decide), fun h => absurd h (by decide)⟩
    · exact ⟨fun _ => rfl, fun _ => ⟨Finset.mem_univ _, rfl⟩⟩
  cases hs : keeps i.val
  · rcases BitVec.eq_zero_or_eq_one (keep (ix1 i)) with h | h
    · exact h
    · exact absurd (hk.mp h) (by rw [hs]; decide)
  · exact hk.mpr hs

end Cert.ReferenceIdeal.Whole

end
-- ==== Proof.WholeValue.lean ====
/-
What the reference computes, number by number.
-/
module

public import proofs.«01_k».proof.Proof.WholeMask

@[expose] public section

noncomputable section

namespace Cert.ReferenceIdeal.Whole

open Cert.ReferenceIdeal Cert.ReferenceIdeal.Gen Cert.Attend
open Idealize.ShloMosaic

/-- The queries, per head. -/
def queries (x : FVec Ideal S2x1024x512 .bf16) (wq : FVec Ideal S512x2048 .bf16) : FVec Ideal S2x1024x32x64 .bf16 :=
  shapeCast _ (truncf .bf16 (Host.dotGeneral dot_S2x1024x512_S512x2048_S2x1024x2048_2_0_01_1_n_n none x wq) bitsLt_bf16_f32) shapeCasts_S2x1024x2048_S2x1024x32x64
/-- The masked scores, and their exponentials below the row's largest. -/
def scores (q : FVec Ideal S2x1024x32x64 .bf16) (k : FVec Ideal S2x128x32x64 .bf16) : FVec Ideal S2x32x1024x128 .f32 :=
  select (broadcastInDim S2x32x1024x128 ![0, 1, 2, 3] bcast_S1x1x1024x128_S2x32x1024x128_0_1_2_3
      (broadcastInDim S1x1x1024x128 ![2, 3] bcast_S1024x128_S1x1x1024x128_2_3 mask))
    (mulf (extf .f32 (truncf .bf16 (Host.dotGeneral dot_S2x1024x32x64_S2x128x32x64_S2x32x1024x128_3_3_1_1_02_02 none q k : FVec Ideal S2x32x1024x128 .f32) bitsLt_bf16_f32) bitsLt_bf16_f32)
      (broadcastInDim S2x32x1024x128 ![] bcast_S_S2x32x1024x128 (constant S_ .f32 0x3E000000#32)))
    (broadcastInDim S2x32x1024x128 ![] bcast_S_S2x32x1024x128 (id (constant S_ .f32 0xCE6E6B28#32)))
def exps (s : FVec Ideal S2x32x1024x128 .f32) : FVec Ideal S2x32x1024x128 .f32 :=
  Host.exp (subf s (broadcastInDim S2x32x1024x128 ![0, 1, 2, 3] bcast_S2x32x1024x1_S2x32x1024x128_0_1_2_3
    (broadcastInDim S2x32x1024x1 ![0, 1, 2] bcast_S2x32x1024_S2x32x1024x1_0_1_2
      (Host.reduce FloatOps.maximumf s (constant S_ .f32 0xFF800000#32) reducesTo_S2x32x1024x128_S2x32x1024_d3 h_S_))))
/-- The weights of the keys. -/
def weights (e : FVec Ideal S2x32x1024x128 .f32) : FVec Ideal S2x32x1024x128 .f32 :=
  let kp : IVec S1x1x1024x1 1 := broadcastInDim S1x1x1024x1 ![2] bcast_S1024_S1x1x1024x1_2 keep
  select (broadcastInDim S2x32x1024x128 ![0, 1, 2, 3] bcast_S1x1x1024x1_S2x32x1024x128_0_1_2_3 kp)
    (Host.divf e (broadcastInDim S2x32x1024x128 ![0, 1, 2, 3] bcast_S2x32x1024x1_S2x32x1024x128_0_1_2_3
      (select (broadcastInDim S2x32x1024x1 ![0, 1, 2, 3] bcast_S1x1x1024x1_S2x32x1024x1_0_1_2_3 kp)
        (broadcastInDim S2x32x1024x1 ![0, 1, 2] bcast_S2x32x1024_S2x32x1024x1_0_1_2
          (Host.reduceAdd e (constant S_ .f32 0x00000000#32) reducesTo_S2x32x1024x128_S2x32x1024_d3 h_S_))
        (broadcastInDim S2x32x1024x1 ![] bcast_S_S2x32x1024x1 (id (constant S_ .f32 0x3F800000#32))))))
    (broadcastInDim S2x32x1024x128 ![] bcast_S_S2x32x1024x128 (id (constant S_ .f32 0x00000000#32)))
/-- The heads' results, side by side. -/
def context (v : FVec Ideal S2x128x32x64 .bf16) (w : FVec Ideal S2x32x1024x128 .f32) : FVec Ideal S2x1024x2048 .f32 :=
  shapeCast _ (transpose S2x1024x32x64 [0, 3, 1, 2]
    (Host.dotGeneral dot_S2x128x32x64_S2x32x1024x128_S2x32x64x1024_1_3_3_2_02_01 none (extf .f32 v bitsLt_bf16_f32) w : FVec Ideal S2x32x64x1024 .f32)
    transposes_S2x32x64x1024_S2x1024x32x64_0_3_1_2) shapeCasts_S2x1024x32x64_S2x1024x2048
/-- The heads' results through the last matrix. -/
def project (c : FVec Ideal S2x1024x2048 .f32) (wo : FVec Ideal S2048x512 .bf16) : FVec Ideal S2x1024x512 .f32 :=
  Host.dotGeneral dot_S2x1024x2048_S2048x512_S2x1024x512_2_0_01_1_n_n none c (extf .f32 wo bitsLt_bf16_f32)
/-- The whole result. -/
def result (x : FVec Ideal S2x1024x512 .bf16) (wq : FVec Ideal S512x2048 .bf16) (k v : FVec Ideal S2x128x32x64 .bf16)
    (wo : FVec Ideal S2048x512 .bf16) : FVec Ideal S2x1024x512 .f32 :=
  project (context v (weights (exps (scores (queries x wq) k)))) wo

set_option maxRecDepth 16384 in
/-- The reference's result is this. -/
theorem res_eq (m : (ℓ : Loc nD τ sig) → Buf (Elt Ideal) ℓ) (c : Dev nD) :
    Value.res_main_v44 (F := Ideal) m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

/-- The head and the number within the head of a column, and the column of a head's number. -/
def hd (k : Fin 2048) : Fin 32 := ⟨k.val / 64, by omega⟩
def wi (k : Fin 2048) : Fin 64 := ⟨k.val % 64, by omega⟩
def at32 (h : Fin 32) (d : Fin 64) : Fin 2048 := ⟨h.val * 64 + d.val, by omega⟩

theorem queries_apply (x : FVec Ideal S2x1024x512 .bf16) (wq : FVec Ideal S512x2048 .bf16) (b : Fin 2) (i : Fin 1024) (h : Fin 32) (d : Fin 64) :
    queries x wq (ix4 b i h d) = ∑ e : Fin 512, x (ix3 b i e) * wq (ix2 e (at32 h d)) := by
  pointwise [queries]
  rfl

theorem scores_apply (q : FVec Ideal S2x1024x32x64 .bf16) (k : FVec Ideal S2x128x32x64 .bf16) (b : Fin 2) (h : Fin 32) (i : Fin 1024) (j : Fin 128) :
    scores q k (ix4 b h i j) = score (mask (ix2 i j)) (fun d => q (ix4 b i h d)) (fun d => k (ix4 b j h d)) := by
  pointwise [scores, score, id]

theorem exps_apply (s : FVec Ideal S2x32x1024x128 .f32) (b : Fin 2) (h : Fin 32) (i : Fin 1024) (j : Fin 128) :
    exps s (ix4 b h i j) = Ideal.exp (s (ix4 b h i j) - top fun k => s (ix4 b h i k)) := by
  pointwise [exps, top]

theorem weights_apply (s : FVec Ideal S2x32x1024x128 .f32) (b : Fin 2) (h : Fin 32) (i : Fin 1024) (j : Fin 128) :
    weights (exps s) (ix4 b h i j) = weight (keep (ix1 i)) (fun k => s (ix4 b h i k)) j := by
  have hw : weights (exps s) (ix4 b h i j) = Scalar.select (keep (ix1 i))
      (Ideal.div (exps s (ix4 b h i j)) (Scalar.select (keep (ix1 i)) (∑ k : Fin 128, exps s (ix4 b h i k)) (Ideal.ofBits .f32 0x3F800000#32))) (0 : EReal) := by
    pointwise [weights, id]

  rw [hw, weight]
  simp only [exps_apply]
  rcases BitVec.eq_zero_or_eq_one (keep (ix1 i)) with hk | hk
  · rw [hk]
    rfl
  · rw [hk]
    rfl

theorem context_apply (v : FVec Ideal S2x128x32x64 .bf16) (w : FVec Ideal S2x32x1024x128 .f32) (b : Fin 2) (i : Fin 1024) (k : Fin 2048) :
    context v w (ix3 b i k) = ∑ j : Fin 128, w (ix4 b (hd k) i j) * v (ix4 b j (hd k) (wi k)) := by
  pointwise [context]
  exact Finset.sum_congr rfl fun _ _ => mul_comm _ _

theorem project_apply (c : FVec Ideal S2x1024x2048 .f32) (wo : FVec Ideal S2048x512 .bf16) (b : Fin 2) (i : Fin 1024) (n : Fin 512) :
    project c wo (ix3 b i n) = ∑ p : Fin 2048, c (ix3 b i p) * wo (ix2 p n) := by
  pointwise [project]

/-- Each number of the reference's result. -/
theorem result_apply (x : FVec Ideal S2x1024x512 .bf16) (wq : FVec Ideal S512x2048 .bf16) (k v : FVec Ideal S2x128x32x64 .bf16)
    (wo : FVec Ideal S2048x512 .bf16) (b : Fin 2) (i : Fin 1024) (n : Fin 512) :
    result x wq k v wo (ix3 b i n) = ∑ p : Fin 2048,
      attend (fun j => BitVec.ofBool (sees i.val j.val)) (BitVec.ofBool (keeps i.val))
        (fun d => ∑ e : Fin 512, x (ix3 b i e) * wq (ix2 e (at32 (hd p) d)))
        (fun j d => k (ix4 b j (hd p) d)) (fun j d => v (ix4 b j (hd p) d)) (wi p) * wo (ix2 p n) := by
  rw [result, project_apply]
  refine Finset.sum_congr rfl fun p _ => congrArg (fun t => t * wo (ix2 p n)) ?_
  rw [context_apply, attend]
  refine Finset.sum_congr rfl fun j _ => congrArg (fun t => t * v (ix4 b j (hd p) (wi p))) ?_
  rw [weights_apply, keep_apply]
  simp only [scores_apply, queries_apply, mask_apply]

end Cert.ReferenceIdeal.Whole

end
-- ==== Proof.Agree.lean ====
/-
Device `c`'s result is block `c` of the reference's rows.
-/
module

public import proofs.«01_k».proof.Proof.Device
public import proofs.«01_k».proof.Proof.WholeValue

@[expose] public section

noncomputable section

namespace Cert.Agree

open Cert.Attend
open Idealize.ShloMosaic
open Cert.KernelIdeal.Gather (argX argQ argK argV argO slotSum outB headOf)

/-- A sum over 2048 columns, slot by slot. -/
theorem sum_slots (f : Fin 2048 → EReal) : ∑ p : Fin 2048, f p = ∑ j : Fin 8, ∑ k : Fin 256, f ⟨256 * j.val + k.val, by omega⟩ := by
  rw [← Finset.sum_product', Finset.univ_product_univ]
  refine (Fintype.sum_equiv (finProdFinEquiv (m := 8) (n := 256)) _ _ fun x => congrArg f (Fin.ext ?_)).symm
  show 256 * x.1.val + x.2.val = x.2.val + 256 * x.1.val
  omega

section

variable (m : (ℓ : Loc Cert.KernelIdeal.nD Cert.KernelIdeal.τ Cert.KernelIdeal.sig) → Buf (Elt Ideal) ℓ)
variable (x : FVec Ideal Cert.ReferenceIdeal.S2x1024x512 .bf16) (wq : FVec Ideal Cert.ReferenceIdeal.S512x2048 .bf16)
variable (k v : FVec Ideal Cert.ReferenceIdeal.S2x128x32x64 .bf16) (wo : FVec Ideal Cert.ReferenceIdeal.S2048x512 .bf16)

/-- Row `i` of device `c`, column `p` of slot `j`: their places in the whole arrays. -/
def row (c : Fin 8) (i : Fin 128) : Fin 1024 := ⟨c.val * 128 + i.val, by omega⟩
def col (j : Fin 8) (p : Fin 256) : Fin 2048 := ⟨j.val * 256 + p.val, by omega⟩

theorem blockX (c : Fin 8) (b : Fin 2) (i : Fin 128) (e : Fin 512) :
    Layout.block ⟨3, ![2, 128, 512]⟩ ⟨3, ![2, 1024, 512]⟩ 1 8 c x (by decide) (ix3 b i e) = x (ix3 b (row c i) e) := by
  refine congrArg x (Layout.idx_ext fun a => ?_)
  fin_cases a <;> rfl
theorem blockQ (c : Fin 8) (e : Fin 512) (p : Fin 256) :
    Layout.block ⟨2, ![512, 256]⟩ ⟨2, ![512, 2048]⟩ 1 8 c wq (by decide) (ix2 e p) = wq (ix2 e (col c p)) := by
  refine congrArg wq (Layout.idx_ext fun a => ?_)
  fin_cases a <;> rfl
theorem blockO (c : Fin 8) (p : Fin 256) (n : Fin 512) :
    Layout.block ⟨2, ![256, 512]⟩ ⟨2, ![2048, 512]⟩ 0 8 c wo (by decide) (ix2 p n) = wo (ix2 (col c p) n) := by
  refine congrArg wo (Layout.idx_ext fun a => ?_)
  fin_cases a <;> rfl

/-- The devices hold their parts of the whole arrays. -/
structure Parts : Prop where
  x : ∀ c : Fin 8, argX m c = Layout.block ⟨3, ![2, 128, 512]⟩ ⟨3, ![2, 1024, 512]⟩ 1 8 c x
  q : ∀ c : Fin 8, argQ m c = Layout.block ⟨2, ![512, 256]⟩ ⟨2, ![512, 2048]⟩ 1 8 c wq
  k : ∀ c : Fin 8, argK m c = k
  v : ∀ c : Fin 8, argV m c = v
  o : ∀ c : Fin 8, argO m c = Layout.block ⟨2, ![256, 512]⟩ ⟨2, ![2048, 512]⟩ 0 8 c wo

variable {m x wq k v wo}

/-- Each number that a device computes is the reference's at the device's rows. -/
theorem outB_eq (h : Parts m x wq k v wo) (ρ : Dev Cert.KernelIdeal.nD → PrngReg) (c : Fin 8) (b : Fin 2) (i : Fin 128) (n : Fin 512) :
    outB m ρ c (ix3 b i n) = Cert.ReferenceIdeal.Whole.result x wq k v wo (ix3 b (row c i) n) := by
  rw [Cert.KernelIdeal.Gather.outB_apply, Cert.ReferenceIdeal.Whole.result_apply, sum_slots]
  refine Finset.sum_congr rfl fun j _ => Finset.sum_congr rfl fun p _ => ?_
  have hp : (⟨256 * j.val + p.val, by omega⟩ : Fin 2048) = col j p := Fin.ext (show 256 * j.val + p.val = j.val * 256 + p.val by omega)
  have hr : 128 * c.val + i.val = (row c i).val := show 128 * c.val + i.val = c.val * 128 + i.val by omega
  have hh : Cert.ReferenceIdeal.Whole.hd (col j p) = headOf j (Cert.KernelIdeal.Gather.hd p) :=
    Fin.ext (show (j.val * 256 + p.val) / 64 = 4 * j.val + p.val / 64 by omega)
  have hw : Cert.ReferenceIdeal.Whole.wi (col j p) = Cert.KernelIdeal.Gather.wi p :=
    Fin.ext (show (j.val * 256 + p.val) % 64 = p.val % 64 by omega)
  have hc : ∀ t d, Cert.ReferenceIdeal.Whole.at32 (headOf j t) d = col j (Cert.KernelIdeal.Gather.at4 t d) := fun t d =>
    Fin.ext (show (4 * j.val + t.val) * 64 + d.val = j.val * 256 + (64 * t.val + d.val) by omega)
  rw [hp, hh, hw, hr, h.x c, h.q j, h.k c, h.v c, h.o j]
  simp only [hc, blockX, blockQ, blockO]

/-- Device `c`'s result is block `c` of the reference's. -/
theorem finalA_eq_block (h : Parts m x wq k v wo) (ρ : Dev Cert.KernelIdeal.nD → PrngReg) (c : Fin 8) :
    Cert.KernelIdeal.Gather.finalA m ρ c (5 : Fin 6)
      = Layout.block ⟨3, ![2, 128, 512]⟩ ⟨3, ![2, 1024, 512]⟩ 1 8 c (Cert.ReferenceIdeal.Whole.result x wq k v wo) := by
  rw [Cert.KernelIdeal.Gather.finalA_eq]
  funext y
  have hy : y = ix3 (y 0) (y 1) (y 2) := by
    refine Layout.idx_ext fun a => ?_
    fin_cases a <;> rfl
  rw [hy]
  exact (outB_eq h ρ c (y 0) (y 1) (y 2)).trans (blockX (Cert.ReferenceIdeal.Whole.result x wq k v wo) c (y 0) (y 1) (y 2)).symm

end

end Cert.Agree

end
-- ==== Proof.lean ====
/-
The certificate's claims, assembled from the modules under Proof/.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Final
public import proofs.«01_k».proof.Proof.Bits.Final
public import proofs.«01_k».proof.Proof.Agree
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs on the eight devices, keeps its arguments and leaves every counter at zero. -/
theorem frame_kernel : Cert.quiescent_Kernel (hKernel := Cert.Kernel.Gen.facts) := fun m g _ =>
  (θ_run Cert.Kernel.defs _ _).mono (fun _ h => ⟨fun c => (h.1 c).2, h.2⟩) (Cert.Kernel.Gather.run_all (F := Bits) m g)
/-- So does the kernel at exact arithmetic. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩) (Cert.KernelIdeal.Gather.run_all (F := Ideal) m g)
/-- The reference runs, keeps its arguments and leaves every counter at zero: it has none. -/
theorem frame_reference : Cert.quiescent_ReferenceIdeal (hReferenceIdeal := Cert.ReferenceIdeal.Gen.facts) := fun m g _ =>
  (θ_run Cert.ReferenceIdeal.defs _ _).mono (fun r h => ⟨fun c => (h c).2, sem_eq_zero_of_no_sems rfl r.2⟩) (Cert.ReferenceIdeal.Value.run (F := Ideal) m g)

/-- At exact arithmetic the devices' results are the blocks of the reference's result. -/
theorem algebraic : Cert.algebraic_KernelIdeal_ReferenceIdeal (hKernelIdeal := Cert.KernelIdeal.Gen.facts) (hReferenceIdeal := Cert.ReferenceIdeal.Gen.facts) :=
  fun m g m' g' _ hin =>
    have hp : Cert.Agree.Parts m _ _ _ _ _ :=
      ⟨fun c => (hin c).1, fun c => (hin c).2.1, fun c => (hin c).2.2.1, fun c => (hin c).2.2.2.1, fun c => (hin c).2.2.2.2⟩
    ⟨Cert.ReferenceIdeal.Value.res_main_v44 (F := Ideal) m' 0,
      (θ_run Cert.KernelIdeal.defs _ _).mono
        (fun _ h c => ⟨(h.1 c).1.trans ((Cert.Agree.finalA_eq_block hp g c).trans
          (congrArg (fun r => Layout.block ⟨3, ![2, 128, 512]⟩ ⟨3, ![2, 1024, 512]⟩ 1 8 c r) (Cert.ReferenceIdeal.Whole.res_eq m' 0).symm)), (h.1 c).2⟩)
        (Cert.KernelIdeal.Gather.run_all (F := Ideal) m g),
      (θ_run Cert.ReferenceIdeal.defs _ _).mono (fun _ h => h 0) (Cert.ReferenceIdeal.Value.run (F := Ideal) m' g')⟩

theorem claim : Cert.Claim :=
  ⟨Cert.Kernel.Gen.facts, Cert.KernelIdeal.Gen.facts, Cert.ReferenceIdeal.Gen.facts, frame_kernel, frame_ideal, frame_reference, trivial, algebraic⟩

end Cert.Proof

end
